-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_layers [hPre_finite_layers : Cert.Pre_finite_layers.Facts] (m : (ℓ : Loc Cert.KernelIdeal.nD Cert.KernelIdeal.τ Cert.KernelIdeal.sig) → Buf (Elt Ideal) ℓ) : Prop :=
  ∀ c : Dev Cert.KernelIdeal.nD,
    (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_layers [hPre_finite_layers : Cert.Pre_finite_layers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite_layers [hKernelIdeal : Cert.KernelIdeal.Facts] [hPre_finite_layers : Cert.Pre_finite_layers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_layers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite_layers [hReferenceIdeal : Cert.ReferenceIdeal.Facts] [hPre_finite_layers : Cert.Pre_finite_layers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_layers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal_pre_finite_layers [hKernelIdeal : Cert.KernelIdeal.Facts] [hReferenceIdeal : Cert.ReferenceIdeal.Facts] [hPre_finite_layers : Cert.Pre_finite_layers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_layers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v548) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_layers : Cert.Pre_finite_layers.Facts),
    quiescent_Kernel (hKernel := hKernel)
    ∧ quiescent_KernelIdeal (hKernelIdeal := hKernelIdeal)
    ∧ quiescent_KernelIdeal_pre_finite_layers (hKernelIdeal := hKernelIdeal) (hPre_finite_layers := hPre_finite_layers)
    ∧ quiescent_ReferenceIdeal (hReferenceIdeal := hReferenceIdeal)
    ∧ quiescent_ReferenceIdeal_pre_finite_layers (hReferenceIdeal := hReferenceIdeal) (hPre_finite_layers := hPre_finite_layers)
    ∧ preserves_Kernel_KernelIdeal
    ∧ algebraic_KernelIdeal_ReferenceIdeal_pre_finite_layers (hKernelIdeal := hKernelIdeal) (hReferenceIdeal := hReferenceIdeal) (hPre_finite_layers := hPre_finite_layers)
-- ==== Pre_finite_layers.lean ====
abbrev S10000x128 : Shape := ⟨2, ![10000, 128]⟩
abbrev S2x320000 : Shape := ⟨2, ![2, 320000]⟩
abbrev S320000 : Shape := ⟨1, ![320000]⟩
abbrev S512x128 : Shape := ⟨2, ![512, 128]⟩
abbrev S512 : Shape := ⟨1, ![512]⟩
abbrev S512x512 : Shape := ⟨2, ![512, 512]⟩
abbrev S128x512 : Shape := ⟨2, ![128, 512]⟩
abbrev S128 : Shape := ⟨1, ![128]⟩
abbrev S32x512 : Shape := ⟨2, ![32, 512]⟩
abbrev S32x512x8 : Shape := ⟨3, ![32, 512, 8]⟩
abbrev S128x32 : Shape := ⟨2, ![128, 32]⟩
abbrev S128x32x8 : Shape := ⟨3, ![128, 32, 8]⟩
abbrev S16x256 : Shape := ⟨2, ![16, 256]⟩
abbrev S16x256x8 : Shape := ⟨3, ![16, 256, 8]⟩
abbrev S10x16 : Shape := ⟨2, ![10, 16]⟩
abbrev S10x16x8 : Shape := ⟨3, ![10, 16, 8]⟩
abbrev S_ : Shape := ⟨0, ![]⟩

class Facts : Prop where
  bcast_S_S10000x128 : S_.BroadcastsInDim S10000x128 (![] : Fin 0 → Fin S10000x128.rank)
  bcast_S_S512x128 : S_.BroadcastsInDim S512x128 (![] : Fin 0 → Fin S512x128.rank)
  bcast_S_S512 : S_.BroadcastsInDim S512 (![] : Fin 0 → Fin S512.rank)
  bcast_S_S512x512 : S_.BroadcastsInDim S512x512 (![] : Fin 0 → Fin S512x512.rank)

variable [Facts]

def fn_part1 {F : FTy → Type} [FloatOps F] (main_arg8 : FVec F S512 .f32) (main_arg9 : FVec F S512 .f32) (main_v2 : IVec S10000x128 1) (main_v5 : IVec S512x128 1) (main_v8 : IVec S512 1) (main_v11 : IVec S512 1) (main_v14 : IVec S512 1) (main_v17 : IVec S512x512 1) : IVec S10000x128 1 × IVec S512x128 1 × IVec S512 1 × IVec S512 1 × IVec S512 1 × IVec S512x512 1 × IVec S512 1 × IVec S512 1 :=
  let main_v18 : FVec F S512 .f32 := Host.absf main_arg8
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg9
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  (main_v2, main_v5, main_v8, main_v11, main_v14, main_v17, main_v20, main_v23)

def fn {F : FTy → Type} [FloatOps F] (main_arg0 : FVec F S10000x128 .f32) (main_arg1 : IVec S2x320000 32) (main_arg2 : FVec F S320000 .f32) (main_arg3 : FVec F S512x128 .f32) (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S128x512 .f32) (main_arg12 : FVec F S128 .f32) (main_arg13 : FVec F S32x512 .f32) (main_arg14 : FVec F S32x512x8 .f32) (main_arg15 : FVec F S32x512 .f32) (main_arg16 : FVec F S128x32 .f32) (main_arg17 : FVec F S128x32x8 .f32) (main_arg18 : FVec F S128x32 .f32) (main_arg19 : FVec F S16x256 .f32) (main_arg20 : FVec F S16x256x8 .f32) (main_arg21 : FVec F S16x256 .f32) (main_arg22 : FVec F S10x16 .f32) (main_arg23 : FVec F S10x16x8 .f32) (main_arg24 : FVec F S10x16 .f32) : IVec S10000x128 1 × IVec S512x128 1 × IVec S512 1 × IVec S512 1 × IVec S512 1 × IVec S512x512 1 × IVec S512 1 × IVec S512 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S512x128 .f32 := Host.absf main_arg3
  let main_cst_0 : FVec F S_ .f32 := constant S_ .f32 0x7F800000#32
  let main_v4 : FVec F S512x128 .f32 := broadcastInDim S512x128 ![] bcast_S_S512x128 main_cst_0
  let main_v5 : IVec S512x128 1 := cmpf .olt main_v3 main_v4
  let main_v6 : FVec F S512 .f32 := Host.absf main_arg4
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg6
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512x512 .f32 := Host.absf main_arg7
  let main_cst_4 : FVec F S_ .f32 := constant S_ .f32 0x7F800000#32
  let main_v16 : FVec F S512x512 .f32 := broadcastInDim S512x512 ![] bcast_S_S512x512 main_cst_4
  let main_v17 : IVec S512x512 1 := cmpf .olt main_v15 main_v16
  fn_part1 (F := F) main_arg8 main_arg9 main_v2 main_v5 main_v8 main_v11 main_v14 main_v17
-- ==== Kernel.lean ====
abbrev S10000x128 : Shape := ⟨2, ![10000, 128]⟩
abbrev S2x320000 : Shape := ⟨2, ![2, 320000]⟩
abbrev S320000 : Shape := ⟨1, ![320000]⟩
abbrev S512x128 : Shape := ⟨2, ![512, 128]⟩
abbrev S512 : Shape := ⟨1, ![512]⟩
abbrev S512x512 : Shape := ⟨2, ![512, 512]⟩
abbrev S128x512 : Shape := ⟨2, ![128, 512]⟩
abbrev S128 : Shape := ⟨1, ![128]⟩
abbrev S32x512 : Shape := ⟨2, ![32, 512]⟩
abbrev S32x512x8 : Shape := ⟨3, ![32, 512, 8]⟩
abbrev S128x32 : Shape := ⟨2, ![128, 32]⟩
abbrev S128x32x8 : Shape := ⟨3, ![128, 32, 8]⟩
abbrev S16x256 : Shape := ⟨2, ![16, 256]⟩
abbrev S16x256x8 : Shape := ⟨3, ![16, 256, 8]⟩
abbrev S10x16 : Shape := ⟨2, ![10, 16]⟩
abbrev S10x16x8 : Shape := ⟨3, ![10, 16, 8]⟩
abbrev S32x512x1 : Shape := ⟨3, ![32, 512, 1]⟩
abbrev S_ : Shape := ⟨0, ![]⟩
abbrev S8x512x32 : Shape := ⟨3, ![8, 512, 32]⟩
abbrev S128x32x1 : Shape := ⟨3, ![128, 32, 1]⟩
abbrev S8x32x128 : Shape := ⟨3, ![8, 32, 128]⟩
abbrev S16x256x1 : Shape := ⟨3, ![16, 256, 1]⟩
abbrev S8x256x16 : Shape := ⟨3, ![8, 256, 16]⟩
abbrev S10x16x1 : Shape := ⟨3, ![10, 16, 1]⟩
abbrev S8x16x10 : Shape := ⟨3, ![8, 16, 10]⟩
abbrev S1x512 : Shape := ⟨2, ![1, 512]⟩
abbrev S1x128 : Shape := ⟨2, ![1, 128]⟩
abbrev S10000x10 : Shape := ⟨2, ![10000, 10]⟩
abbrev S1000x128 : Shape := ⟨2, ![1000, 128]⟩
abbrev S1000x10 : Shape := ⟨2, ![1000, 10]⟩
abbrev S10000x512 : Shape := ⟨2, ![10000, 512]⟩
abbrev S8x512 : Shape := ⟨2, ![8, 512]⟩
abbrev S1000x512 : Shape := ⟨2, ![1000, 512]⟩
abbrev S6x512 : Shape := ⟨2, ![6, 512]⟩
abbrev S1000x32 : Shape := ⟨2, ![1000, 32]⟩
abbrev S1x512x32 : Shape := ⟨3, ![1, 512, 32]⟩
abbrev S512x32 : Shape := ⟨2, ![512, 32]⟩
abbrev S1x32x128 : Shape := ⟨3, ![1, 32, 128]⟩
abbrev S32x128 : Shape := ⟨2, ![32, 128]⟩
abbrev S1000x256 : Shape := ⟨2, ![1000, 256]⟩
abbrev S1000x16 : Shape := ⟨2, ![1000, 16]⟩
abbrev S1x256x16 : Shape := ⟨3, ![1, 256, 16]⟩
abbrev S256x16 : Shape := ⟨2, ![256, 16]⟩
abbrev S1x16x10 : Shape := ⟨3, ![1, 16, 10]⟩
abbrev S16x10 : Shape := ⟨2, ![16, 10]⟩

abbrev nBuf : Space → Nat
  | .hbm => 76
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S128x512, .f32⟩
  | .hbm, ⟨12, _⟩ => ⟨S128, .f32⟩
  | .hbm, ⟨13, _⟩ => ⟨S32x512, .f32⟩
  | .hbm, ⟨14, _⟩ => ⟨S32x512x8, .f32⟩
  | .hbm, ⟨15, _⟩ => ⟨S32x512, .f32⟩
  | .hbm, ⟨16, _⟩ => ⟨S128x32, .f32⟩
  | .hbm, ⟨17, _⟩ => ⟨S128x32x8, .f32⟩
  | .hbm, ⟨18, _⟩ => ⟨S128x32, .f32⟩
  | .hbm, ⟨19, _⟩ => ⟨S16x256, .f32⟩
  | .hbm, ⟨20, _⟩ => ⟨S16x256x8, .f32⟩
  | .hbm, ⟨21, _⟩ => ⟨S16x256, .f32⟩
  | .hbm, ⟨22, _⟩ => ⟨S10x16, .f32⟩
  | .hbm, ⟨23, _⟩ => ⟨S10x16x8, .f32⟩
  | .hbm, ⟨24, _⟩ => ⟨S10x16, .f32⟩
  | .hbm, ⟨25, _⟩ => ⟨S32x512x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x512x1, .f32⟩
  | .hbm, ⟨30, _⟩ => ⟨S32x512x1, .f32⟩
  | .hbm, ⟨31, _⟩ => ⟨S32x512x8, .f32⟩
  | .hbm, ⟨32, _⟩ => ⟨S32x512x8, .f32⟩
  | .hbm, ⟨33, _⟩ => ⟨S8x512x32, .f32⟩
  | .hbm, ⟨34, _⟩ => ⟨S128x32x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S128x32x1, .f32⟩
  | .hbm, ⟨39, _⟩ => ⟨S128x32x1, .f32⟩
  | .hbm, ⟨40, _⟩ => ⟨S128x32x8, .f32⟩
  | .hbm, ⟨41, _⟩ => ⟨S128x32x8, .f32⟩
  | .hbm, ⟨42, _⟩ => ⟨S8x32x128, .f32⟩
  | .hbm, ⟨43, _⟩ => ⟨S16x256x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16x256x1, .f32⟩
  | .hbm, ⟨48, _⟩ => ⟨S16x256x1, .f32⟩
  | .hbm, ⟨49, _⟩ => ⟨S16x256x8, .f32⟩
  | .hbm, ⟨50, _⟩ => ⟨S16x256x8, .f32⟩
  | .hbm, ⟨51, _⟩ => ⟨S8x256x16, .f32⟩
  | .hbm, ⟨52, _⟩ => ⟨S10x16x1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S10x16x1, .f32⟩
  | .hbm, ⟨57, _⟩ => ⟨S10x16x1, .f32⟩
  | .hbm, ⟨58, _⟩ => ⟨S10x16x8, .f32⟩
  | .hbm, ⟨59, _⟩ => ⟨S10x16x8, .f32⟩
  | .hbm, ⟨60, _⟩ => ⟨S8x16x10, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S1x128, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x128, .f32⟩
  | .hbm, ⟨75, _⟩ => ⟨S10000x10, .f32⟩
  | .local _ .vmem, ⟨0, _⟩ => ⟨S1000x128, .f32⟩
  | .local _ .vmem, ⟨1, _⟩ => ⟨S1000x128, .f32⟩
  | .local _ .vmem, ⟨2, _⟩ => ⟨S512x128, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S1x128, .f32⟩
  | .local _ .vmem, ⟨12, _⟩ => ⟨S32x512, .f32⟩
  | .local _ .vmem, ⟨13, _⟩ => ⟨S8x512x32, .f32⟩
  | .local _ .vmem, ⟨14, _⟩ => ⟨S128x32, .f32⟩
  | .local _ .vmem, ⟨15, _⟩ => ⟨S8x32x128, .f32⟩
  | .local _ .vmem, ⟨16, _⟩ => ⟨S16x256, .f32⟩
  | .local _ .vmem, ⟨17, _⟩ => ⟨S8x256x16, .f32⟩
  | .local _ .vmem, ⟨18, _⟩ => ⟨S10x16, .f32⟩
  | .local _ .vmem, ⟨19, _⟩ => ⟨S8x16x10, .f32⟩
  | .local _ .vmem, ⟨20, _⟩ => ⟨S1000x10, .f32⟩
  | .local _ .vmem, ⟨21, _⟩ => ⟨S1000x10, .f32⟩
  | .local _ .vmem, ⟨22, _⟩ => ⟨S10000x512, .f32⟩
  | .local _ .vmem, ⟨23, _⟩ => ⟨S10000x512, .f32⟩
  | .local _ .vmem, ⟨24, _⟩ => ⟨S8x512, .f32⟩
  | .local _ .vmem, ⟨25, _⟩ => ⟨S8x512, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_3 : Ref sig .tc := ⟨.hbm, 44, rfl⟩
abbrev main_cst_4 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_5 : Ref sig .tc := ⟨.hbm, 53, rfl⟩
abbrev main_cst_6 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![30], ![false]⟩

def k0_cond2 (i : grid0.Coords) : BitVec 1 :=
  let arg0 : BitVec 32 := BitVec.ofNat 32 (i 0).val
  let c10_i32_1 : BitVec 32 := 10#32
  let v5 : BitVec 1 := Scalar.cmpi .slt arg0 c10_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg0 : BitVec 32 := BitVec.ofNat 32 (i 0).val
  let c10_i32 : BitVec 32 := 10#32
  let v0 : BitVec 32 := Scalar.remsi arg0 c10_i32
  let c1000_i32 : BitVec 32 := 1000#32
  let v1 : BitVec 32 := Scalar.muli v0 c1000_i32
  let v23 : Index := Scalar.indexCast v1
  let c0_12 : Index := 0#32
  ![v23.toNat, 0]
def k0_cond3 (i : grid0.Coords) : BitVec 1 :=
  let arg0 : BitVec 32 := BitVec.ofNat 32 (i 0).val
  let c10_i32_3 : BitVec 32 := 10#32
  let v8 : BitVec 1 := Scalar.cmpi .sge arg0 c10_i32_3
  let c20_i32 : BitVec 32 := 20#32
  let v9 : BitVec 1 := Scalar.cmpi .slt arg0 c20_i32
  let v10 : BitVec 1 := Scalar.andi v8 v9
  let v11 : BitVec 32 := Scalar.extui v10
  let c0_i32_4 : BitVec 32 := 0#32
  let v12 : BitVec 1 := Scalar.cmpi .ne v11 c0_i32_4
  v12

def k0_off2 (i : grid0.Coords) : Fin 2 → Nat :=
  let arg0 : BitVec 32 := BitVec.ofNat 32 (i 0).val
  let c10_i32 : BitVec 32 := 10#32
  let v0 : BitVec 32 := Scalar.remsi arg0 c10_i32
  let c1000_i32 : BitVec 32 := 1000#32
  let v1 : BitVec 32 := Scalar.muli v0 c1000_i32
  let v34 : Index := Scalar.indexCast v1
  let c0_15 : Index := 0#32
  ![v34.toNat, 0]
def k0_cond4 (i : grid0.Coords) : BitVec 1 :=
  let arg0 : BitVec 32 := BitVec.ofNat 32 (i 0).val
  let c20_i32_5 : BitVec 32 := 20#32
  let v13 : BitVec 1 := Scalar.cmpi .sge arg0 c20_i32_5
  let v14 : BitVec 32 := Scalar.extui v13
  let c0_i32_6 : BitVec 32 := 0#32
  let v15 : BitVec 1 := Scalar.cmpi .ne v14 c0_i32_6
  v15

def k0_off3 (i : grid0.Coords) : Fin 2 → Nat :=
  let arg0 : BitVec 32 := BitVec.ofNat 32 (i 0).val
  let c10_i32 : BitVec 32 := 10#32
  let v0 : BitVec 32 := Scalar.remsi arg0 c10_i32
  let c1000_i32 : BitVec 32 := 1000#32
  let v1 : BitVec 32 := Scalar.muli v0 c1000_i32
  let v34 : Index := Scalar.indexCast v1
  let c0_15 : Index := 0#32
  ![v34.toNat, 0]
def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c20_i32 : BitVec 32 := 20#32
  let v0 : BitVec 1 := Scalar.cmpi .slt arg0 c20_i32
  let c20_i32_0 : BitVec 32 := 20#32
  let v1 : BitVec 32 := Scalar.subi arg0 c20_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x256x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S10x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x16x10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1000x10 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "inv_n" => some ((1 / 10000 : ℝ) : EReal)
  | _ => none
-- ==== ReferenceIdeal.lean ====
abbrev S10000x128 : Shape := ⟨2, ![10000, 128]⟩
abbrev S2x320000 : Shape := ⟨2, ![2, 320000]⟩
abbrev S320000 : Shape := ⟨1, ![320000]⟩
abbrev S512x128 : Shape := ⟨2, ![512, 128]⟩
abbrev S512 : Shape := ⟨1, ![512]⟩
abbrev S512x512 : Shape := ⟨2, ![512, 512]⟩
abbrev S128x512 : Shape := ⟨2, ![128, 512]⟩
abbrev S128 : Shape := ⟨1, ![128]⟩
abbrev S32x512 : Shape := ⟨2, ![32, 512]⟩
abbrev S32x512x8 : Shape := ⟨3, ![32, 512, 8]⟩
abbrev S128x32 : Shape := ⟨2, ![128, 32]⟩
abbrev S128x32x8 : Shape := ⟨3, ![128, 32, 8]⟩
abbrev S16x256 : Shape := ⟨2, ![16, 256]⟩
abbrev S16x256x8 : Shape := ⟨3, ![16, 256, 8]⟩
abbrev S10x16 : Shape := ⟨2, ![10, 16]⟩
abbrev S10x16x8 : Shape := ⟨3, ![10, 16, 8]⟩
abbrev S10000x512 : Shape := ⟨2, ![10000, 512]⟩
abbrev S1x512 : Shape := ⟨2, ![1, 512]⟩
abbrev S_ : Shape := ⟨0, ![]⟩
abbrev S1x128 : Shape := ⟨2, ![1, 128]⟩
abbrev S12 : Shape := ⟨1, ![12]⟩
abbrev S1x12 : Shape := ⟨2, ![1, 12]⟩
abbrev S1x1x1x12 : Shape := ⟨4, ![1, 1, 1, 12]⟩
abbrev S512x1x1x12 : Shape := ⟨4, ![512, 1, 1, 12]⟩
abbrev S512x12 : Shape := ⟨2, ![512, 12]⟩
abbrev S512x32 : Shape := ⟨2, ![512, 32]⟩
abbrev S10000x32 : Shape := ⟨2, ![10000, 32]⟩
abbrev S32x512x1 : Shape := ⟨3, ![32, 512, 1]⟩
abbrev S10000x512x1 : Shape := ⟨3, ![10000, 512, 1]⟩
abbrev S512x11 : Shape := ⟨2, ![512, 11]⟩
abbrev S1x512x11 : Shape := ⟨3, ![1, 512, 11]⟩
abbrev S10000x512x11 : Shape := ⟨3, ![10000, 512, 11]⟩
abbrev S512x10 : Shape := ⟨2, ![512, 10]⟩
abbrev S1x512x10 : Shape := ⟨3, ![1, 512, 10]⟩
abbrev S10000x512x10 : Shape := ⟨3, ![10000, 512, 10]⟩
abbrev S512x9 : Shape := ⟨2, ![512, 9]⟩
abbrev S1x512x9 : Shape := ⟨3, ![1, 512, 9]⟩
abbrev S10000x512x9 : Shape := ⟨3, ![10000, 512, 9]⟩
abbrev S512x8 : Shape := ⟨2, ![512, 8]⟩
abbrev S1x512x8 : Shape := ⟨3, ![1, 512, 8]⟩
abbrev S10000x512x8 : Shape := ⟨3, ![10000, 512, 8]⟩
abbrev S10000x4096 : Shape := ⟨2, ![10000, 4096]⟩
abbrev S32x4096 : Shape := ⟨2, ![32, 4096]⟩
abbrev S4096x32 : Shape := ⟨2, ![4096, 32]⟩
abbrev S32x1x1x12 : Shape := ⟨4, ![32, 1, 1, 12]⟩
abbrev S32x12 : Shape := ⟨2, ![32, 12]⟩
abbrev S32x128 : Shape := ⟨2, ![32, 128]⟩
abbrev S128x32x1 : Shape := ⟨3, ![128, 32, 1]⟩
abbrev S10000x32x1 : Shape := ⟨3, ![10000, 32, 1]⟩
abbrev S32x11 : Shape := ⟨2, ![32, 11]⟩
abbrev S1x32x11 : Shape := ⟨3, ![1, 32, 11]⟩
abbrev S10000x32x11 : Shape := ⟨3, ![10000, 32, 11]⟩
abbrev S32x10 : Shape := ⟨2, ![32, 10]⟩
abbrev S1x32x10 : Shape := ⟨3, ![1, 32, 10]⟩
abbrev S10000x32x10 : Shape := ⟨3, ![10000, 32, 10]⟩
abbrev S32x9 : Shape := ⟨2, ![32, 9]⟩
abbrev S1x32x9 : Shape := ⟨3, ![1, 32, 9]⟩
abbrev S10000x32x9 : Shape := ⟨3, ![10000, 32, 9]⟩
abbrev S32x8 : Shape := ⟨2, ![32, 8]⟩
abbrev S1x32x8 : Shape := ⟨3, ![1, 32, 8]⟩
abbrev S10000x32x8 : Shape := ⟨3, ![10000, 32, 8]⟩
abbrev S10000x256 : Shape := ⟨2, ![10000, 256]⟩
abbrev S128x256 : Shape := ⟨2, ![128, 256]⟩
abbrev S256x128 : Shape := ⟨2, ![256, 128]⟩
abbrev S256x1x1x12 : Shape := ⟨4, ![256, 1, 1, 12]⟩
abbrev S256x12 : Shape := ⟨2, ![256, 12]⟩
abbrev S256x16 : Shape := ⟨2, ![256, 16]⟩
abbrev S10000x16 : Shape := ⟨2, ![10000, 16]⟩
abbrev S16x256x1 : Shape := ⟨3, ![16, 256, 1]⟩
abbrev S10000x256x1 : Shape := ⟨3, ![10000, 256, 1]⟩
abbrev S256x11 : Shape := ⟨2, ![256, 11]⟩
abbrev S1x256x11 : Shape := ⟨3, ![1, 256, 11]⟩
abbrev S10000x256x11 : Shape := ⟨3, ![10000, 256, 11]⟩
abbrev S256x10 : Shape := ⟨2, ![256, 10]⟩
abbrev S1x256x10 : Shape := ⟨3, ![1, 256, 10]⟩
abbrev S10000x256x10 : Shape := ⟨3, ![10000, 256, 10]⟩
abbrev S256x9 : Shape := ⟨2, ![256, 9]⟩
abbrev S1x256x9 : Shape := ⟨3, ![1, 256, 9]⟩
abbrev S10000x256x9 : Shape := ⟨3, ![10000, 256, 9]⟩
abbrev S256x8 : Shape := ⟨2, ![256, 8]⟩
abbrev S1x256x8 : Shape := ⟨3, ![1, 256, 8]⟩
abbrev S10000x256x8 : Shape := ⟨3, ![10000, 256, 8]⟩
abbrev S10000x2048 : Shape := ⟨2, ![10000, 2048]⟩
abbrev S16x2048 : Shape := ⟨2, ![16, 2048]⟩
abbrev S2048x16 : Shape := ⟨2, ![2048, 16]⟩
abbrev S16x1x1x12 : Shape := ⟨4, ![16, 1, 1, 12]⟩
abbrev S16x12 : Shape := ⟨2, ![16, 12]⟩
abbrev S16x10 : Shape := ⟨2, ![16, 10]⟩
abbrev S10000x10 : Shape := ⟨2, ![10000, 10]⟩
abbrev S10x16x1 : Shape := ⟨3, ![10, 16, 1]⟩
abbrev S10000x16x1 : Shape := ⟨3, ![10000, 16, 1]⟩
abbrev S16x11 : Shape := ⟨2, ![16, 11]⟩
abbrev S1x16x11 : Shape := ⟨3, ![1, 16, 11]⟩
abbrev S10000x16x11 : Shape := ⟨3, ![10000, 16, 11]⟩
abbrev S1x16x10 : Shape := ⟨3, ![1, 16, 10]⟩
abbrev S10000x16x10 : Shape := ⟨3, ![10000, 16, 10]⟩
abbrev S16x9 : Shape := ⟨2, ![16, 9]⟩
abbrev S1x16x9 : Shape := ⟨3, ![1, 16, 9]⟩
abbrev S10000x16x9 : Shape := ⟨3, ![10000, 16, 9]⟩
abbrev S16x8 : Shape := ⟨2, ![16, 8]⟩
abbrev S1x16x8 : Shape := ⟨3, ![1, 16, 8]⟩
abbrev S10000x16x8 : Shape := ⟨3, ![10000, 16, 8]⟩
abbrev S10x128 : Shape := ⟨2, ![10, 128]⟩
abbrev S128x10 : Shape := ⟨2, ![128, 10]⟩

abbrev nBuf : Space → Nat
  | .hbm => 678
  | .vmem => 0
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S512x128, .f32⟩
  | 4 => ⟨S512, .f32⟩
  | 5 => ⟨S512, .f32⟩
  | 6 => ⟨S512, .f32⟩
  | 7 => ⟨S512x512, .f32⟩
  | 8 => ⟨S512, .f32⟩
  | 9 => ⟨S512, .f32⟩
  | 10 => ⟨S512, .f32⟩
  | 11 => ⟨S128x512, .f32⟩
  | 12 => ⟨S128, .f32⟩
  | 13 => ⟨S32x512, .f32⟩
  | 14 => ⟨S32x512x8, .f32⟩
  | 15 => ⟨S32x512, .f32⟩
  | 16 => ⟨S128x32, .f32⟩
  | 17 => ⟨S128x32x8, .f32⟩
  | 18 => ⟨S128x32, .f32⟩
  | 19 => ⟨S16x256, .f32⟩
  | 20 => ⟨S16x256x8, .f32⟩
  | 21 => ⟨S16x256, .f32⟩
  | 22 => ⟨S10x16, .f32⟩
  | 23 => ⟨S10x16x8, .f32⟩
  | 24 => ⟨S10x16, .f32⟩
  | 25 => ⟨S128x512, .f32⟩
  | 26 => ⟨S10000x512, .f32⟩
  | 27 => ⟨S1x512, .f32⟩
  | 28 => ⟨S10000x512, .f32⟩
  | 29 => ⟨S10000x512, .f32⟩
  | 30 => ⟨S_, .f32⟩
  | 31 => ⟨S512, .f32⟩
  | 32 => ⟨S_, .f32⟩
  | 33 => ⟨S512, .f32⟩
  | 34 => ⟨S512, .f32⟩
  | 35 => ⟨S_, .i32⟩
  | 36 => ⟨S_, .f32⟩
  | 37 => ⟨S512, .f32⟩
  | 38 => ⟨S1x512, .f32⟩
  | 39 => ⟨S_, .f32⟩
  | 40 => ⟨S1x512, .f32⟩
  | 41 => ⟨S1x512, .f32⟩
  | 42 => ⟨S10000x512, .f32⟩
  | 43 => ⟨S10000x512, .f32⟩
  | 44 => ⟨S10000x512, .f32⟩
  | 45 => ⟨S_, .f32⟩
  | 46 => ⟨S_, .f32⟩
  | 47 => ⟨S_, .f32⟩
  | 48 => ⟨S_, .f32⟩
  | 49 => ⟨S512, .f32⟩
  | 50 => ⟨S512, .f32⟩
  | 51 => ⟨S512, .f32⟩
  | 52 => ⟨S_, .f32⟩
  | 53 => ⟨S_, .i1⟩
  | 54 => ⟨S_, .f32⟩
  | 55 => ⟨S_, .f32⟩
  | 56 => ⟨S512, .f32⟩
  | 57 => ⟨S512, .f32⟩
  | 58 => ⟨S1x512, .f32⟩
  | 59 => ⟨S10000x512, .f32⟩
  | 60 => ⟨S10000x512, .f32⟩
  | 61 => ⟨S1x512, .f32⟩
  | 62 => ⟨S10000x512, .f32⟩
  | 63 => ⟨S10000x512, .f32⟩
  | 64 => ⟨S_, .f32⟩
  | 65 => ⟨S512, .f32⟩
  | 66 => ⟨S512, .f32⟩
  | 67 => ⟨S512, .f32⟩
  | 68 => ⟨S1x512, .f32⟩
  | 69 => ⟨S10000x512, .f32⟩
  | 70 => ⟨S10000x512, .f32⟩
  | 71 => ⟨S1x512, .f32⟩
  | 72 => ⟨S10000x512, .f32⟩
  | 73 => ⟨S10000x512, .f32⟩
  | 74 => ⟨S_, .f32⟩
  | 75 => ⟨S10000x512, .f32⟩
  | 76 => ⟨S10000x512, .f32⟩
  | 77 => ⟨S512x512, .f32⟩
  | 78 => ⟨S10000x512, .f32⟩
  | 79 => ⟨S1x512, .f32⟩
  | 80 => ⟨S10000x512, .f32⟩
  | 81 => ⟨S10000x512, .f32⟩
  | 82 => ⟨S_, .f32⟩
  | 83 => ⟨S512, .f32⟩
  | 84 => ⟨S_, .f32⟩
  | 85 => ⟨S512, .f32⟩
  | 86 => ⟨S512, .f32⟩
  | 87 => ⟨S_, .i32⟩
  | 88 => ⟨S_, .f32⟩
  | 89 => ⟨S512, .f32⟩
  | 90 => ⟨S1x512, .f32⟩
  | 91 => ⟨S_, .f32⟩
  | 92 => ⟨S1x512, .f32⟩
  | 93 => ⟨S1x512, .f32⟩
  | 94 => ⟨S10000x512, .f32⟩
  | 95 => ⟨S10000x512, .f32⟩
  | 96 => ⟨S10000x512, .f32⟩
  | 97 => ⟨S_, .f32⟩
  | 98 => ⟨S_, .f32⟩
  | 99 => ⟨S_, .f32⟩
  | 100 => ⟨S_, .f32⟩
  | 101 => ⟨S512, .f32⟩
  | 102 => ⟨S512, .f32⟩
  | 103 => ⟨S512, .f32⟩
  | 104 => ⟨S_, .f32⟩
  | 105 => ⟨S_, .i1⟩
  | 106 => ⟨S_, .f32⟩
  | 107 => ⟨S_, .f32⟩
  | 108 => ⟨S512, .f32⟩
  | 109 => ⟨S512, .f32⟩
  | 110 => ⟨S1x512, .f32⟩
  | 111 => ⟨S10000x512, .f32⟩
  | 112 => ⟨S10000x512, .f32⟩
  | 113 => ⟨S1x512, .f32⟩
  | 114 => ⟨S10000x512, .f32⟩
  | 115 => ⟨S10000x512, .f32⟩
  | 116 => ⟨S_, .f32⟩
  | 117 => ⟨S512, .f32⟩
  | 118 => ⟨S512, .f32⟩
  | 119 => ⟨S512, .f32⟩
  | 120 => ⟨S1x512, .f32⟩
  | 121 => ⟨S10000x512, .f32⟩
  | 122 => ⟨S10000x512, .f32⟩
  | 123 => ⟨S1x512, .f32⟩
  | 124 => ⟨S10000x512, .f32⟩
  | 125 => ⟨S10000x512, .f32⟩
  | 126 => ⟨S_, .f32⟩
  | 127 => ⟨S10000x512, .f32⟩
  | _ => ⟨S10000x128, .f32⟩

abbrev hbmTy0_1 (i : Nat) : BufTy := match i % 128 with
  | 0 => ⟨S10000x512, .f32⟩
  | 1 => ⟨S512x128, .f32⟩
  | 2 => ⟨S10000x128, .f32⟩
  | 3 => ⟨S1x128, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S_, .f32⟩
  | 10 => ⟨S_, .f32⟩
  | 11 => ⟨S_, .f32⟩
  | 12 => ⟨S12, .f32⟩
  | 13 => ⟨S_, .f32⟩
  | 14 => ⟨S12, .f32⟩
  | 15 => ⟨S12, .f32⟩
  | 16 => ⟨S12, .f32⟩
  | 17 => ⟨S12, .f32⟩
  | 18 => ⟨S_, .f32⟩
  | 19 => ⟨S12, .f32⟩
  | 20 => ⟨S12, .f32⟩
  | 21 => ⟨S1x12, .f32⟩
  | 22 => ⟨S1x1x1x12, .f32⟩
  | 23 => ⟨S512x1x1x12, .f32⟩
  | 24 => ⟨S512x12, .f32⟩
  | 25 => ⟨S10000x512, .f32⟩
  | 26 => ⟨S10000x512, .f32⟩
  | 27 => ⟨S_, .f32⟩
  | 28 => ⟨S10000x512, .f32⟩
  | 29 => ⟨S10000x512, .f32⟩
  | 30 => ⟨S_, .f32⟩
  | 31 => ⟨S10000x512, .f32⟩
  | 32 => ⟨S10000x512, .f32⟩
  | 33 => ⟨S10000x512, .f32⟩
  | 34 => ⟨S512x32, .f32⟩
  | 35 => ⟨S10000x32, .f32⟩
  | 36 => ⟨S32x512x1, .f32⟩
  | 37 => ⟨S32x512x8, .f32⟩
  | 38 => ⟨S32x512x8, .f32⟩
  | 39 => ⟨S10000x512x1, .f32⟩
  | 40 => ⟨S512x11, .f32⟩
  | 41 => ⟨S1x512x11, .f32⟩
  | 42 => ⟨S10000x512x11, .f32⟩
  | 43 => ⟨S10000x512x11, .f32⟩
  | 44 => ⟨S10000x512x11, .i1⟩
  | 45 => ⟨S512x11, .f32⟩
  | 46 => ⟨S1x512x11, .f32⟩
  | 47 => ⟨S10000x512x11, .f32⟩
  | 48 => ⟨S10000x512x11, .f32⟩
  | 49 => ⟨S10000x512x11, .i1⟩
  | 50 => ⟨S10000x512x11, .i1⟩
  | 51 => ⟨S10000x512x11, .f32⟩
  | 52 => ⟨S512x10, .f32⟩
  | 53 => ⟨S1x512x10, .f32⟩
  | 54 => ⟨S10000x512x10, .f32⟩
  | 55 => ⟨S10000x512x10, .f32⟩
  | 56 => ⟨S10000x512x10, .f32⟩
  | 57 => ⟨S512x10, .f32⟩
  | 58 => ⟨S1x512x10, .f32⟩
  | 59 => ⟨S512x10, .f32⟩
  | 60 => ⟨S1x512x10, .f32⟩
  | 61 => ⟨S1x512x10, .f32⟩
  | 62 => ⟨S10000x512x10, .f32⟩
  | 63 => ⟨S10000x512x10, .f32⟩
  | 64 => ⟨S512x10, .f32⟩
  | 65 => ⟨S1x512x10, .f32⟩
  | 66 => ⟨S10000x512x10, .f32⟩
  | 67 => ⟨S10000x512x10, .f32⟩
  | 68 => ⟨S10000x512x10, .f32⟩
  | 69 => ⟨S512x10, .f32⟩
  | 70 => ⟨S1x512x10, .f32⟩
  | 71 => ⟨S512x10, .f32⟩
  | 72 => ⟨S1x512x10, .f32⟩
  | 73 => ⟨S1x512x10, .f32⟩
  | 74 => ⟨S10000x512x10, .f32⟩
  | 75 => ⟨S10000x512x10, .f32⟩
  | 76 => ⟨S10000x512x10, .f32⟩
  | 77 => ⟨S10000x512x10, .f32⟩
  | 78 => ⟨S10000x512x10, .f32⟩
  | 79 => ⟨S10000x512x10, .f32⟩
  | 80 => ⟨S10000x512x10, .f32⟩
  | 81 => ⟨S512x9, .f32⟩
  | 82 => ⟨S1x512x9, .f32⟩
  | 83 => ⟨S10000x512x9, .f32⟩
  | 84 => ⟨S10000x512x9, .f32⟩
  | 85 => ⟨S10000x512x9, .f32⟩
  | 86 => ⟨S512x9, .f32⟩
  | 87 => ⟨S1x512x9, .f32⟩
  | 88 => ⟨S512x9, .f32⟩
  | 89 => ⟨S1x512x9, .f32⟩
  | 90 => ⟨S1x512x9, .f32⟩
  | 91 => ⟨S10000x512x9, .f32⟩
  | 92 => ⟨S10000x512x9, .f32⟩
  | 93 => ⟨S512x9, .f32⟩
  | 94 => ⟨S1x512x9, .f32⟩
  | 95 => ⟨S10000x512x9, .f32⟩
  | 96 => ⟨S10000x512x9, .f32⟩
  | 97 => ⟨S10000x512x9, .f32⟩
  | 98 => ⟨S512x9, .f32⟩
  | 99 => ⟨S1x512x9, .f32⟩
  | 100 => ⟨S512x9, .f32⟩
  | 101 => ⟨S1x512x9, .f32⟩
  | 102 => ⟨S1x512x9, .f32⟩
  | 103 => ⟨S10000x512x9, .f32⟩
  | 104 => ⟨S10000x512x9, .f32⟩
  | 105 => ⟨S10000x512x9, .f32⟩
  | 106 => ⟨S10000x512x9, .f32⟩
  | 107 => ⟨S10000x512x9, .f32⟩
  | 108 => ⟨S10000x512x9, .f32⟩
  | 109 => ⟨S10000x512x9, .f32⟩
  | 110 => ⟨S512x8, .f32⟩
  | 111 => ⟨S1x512x8, .f32⟩
  | 112 => ⟨S10000x512x8, .f32⟩
  | 113 => ⟨S10000x512x8, .f32⟩
  | 114 => ⟨S10000x512x8, .f32⟩
  | 115 => ⟨S512x8, .f32⟩
  | 116 => ⟨S1x512x8, .f32⟩
  | 117 => ⟨S512x8, .f32⟩
  | 118 => ⟨S1x512x8, .f32⟩
  | 119 => ⟨S1x512x8, .f32⟩
  | 120 => ⟨S10000x512x8, .f32⟩
  | 121 => ⟨S10000x512x8, .f32⟩
  | 122 => ⟨S512x8, .f32⟩
  | 123 => ⟨S1x512x8, .f32⟩
  | 124 => ⟨S10000x512x8, .f32⟩
  | 125 => ⟨S10000x512x8, .f32⟩
  | 126 => ⟨S10000x512x8, .f32⟩
  | 127 => ⟨S512x8, .f32⟩
  | _ => ⟨S10000x128, .f32⟩

abbrev hbmTy0_2 (i : Nat) : BufTy := match i % 128 with
  | 0 => ⟨S1x512x8, .f32⟩
  | 1 => ⟨S512x8, .f32⟩
  | 2 => ⟨S1x512x8, .f32⟩
  | 3 => ⟨S1x512x8, .f32⟩
  | 4 => ⟨S10000x512x8, .f32⟩
  | 5 => ⟨S10000x512x8, .f32⟩
  | 6 => ⟨S10000x512x8, .f32⟩
  | 7 => ⟨S10000x512x8, .f32⟩
  | 8 => ⟨S10000x512x8, .f32⟩
  | 9 => ⟨S10000x512x8, .f32⟩
  | 10 => ⟨S10000x512x8, .f32⟩
  | 11 => ⟨S10000x4096, .f32⟩
  | 12 => ⟨S32x4096, .f32⟩
  | 13 => ⟨S4096x32, .f32⟩
  | 14 => ⟨S10000x32, .f32⟩
  | 15 => ⟨S10000x32, .f32⟩
  | 16 => ⟨S_, .f32⟩
  | 17 => ⟨S_, .f32⟩
  | 18 => ⟨S_, .f32⟩
  | 19 => ⟨S12, .f32⟩
  | 20 => ⟨S_, .f32⟩
  | 21 => ⟨S12, .f32⟩
  | 22 => ⟨S12, .f32⟩
  | 23 => ⟨S12, .f32⟩
  | 24 => ⟨S12, .f32⟩
  | 25 => ⟨S_, .f32⟩
  | 26 => ⟨S12, .f32⟩
  | 27 => ⟨S12, .f32⟩
  | 28 => ⟨S1x12, .f32⟩
  | 29 => ⟨S1x1x1x12, .f32⟩
  | 30 => ⟨S32x1x1x12, .f32⟩
  | 31 => ⟨S32x12, .f32⟩
  | 32 => ⟨S10000x32, .f32⟩
  | 33 => ⟨S10000x32, .f32⟩
  | 34 => ⟨S_, .f32⟩
  | 35 => ⟨S10000x32, .f32⟩
  | 36 => ⟨S10000x32, .f32⟩
  | 37 => ⟨S_, .f32⟩
  | 38 => ⟨S10000x32, .f32⟩
  | 39 => ⟨S10000x32, .f32⟩
  | 40 => ⟨S10000x32, .f32⟩
  | 41 => ⟨S32x128, .f32⟩
  | 42 => ⟨S10000x128, .f32⟩
  | 43 => ⟨S128x32x1, .f32⟩
  | 44 => ⟨S128x32x8, .f32⟩
  | 45 => ⟨S128x32x8, .f32⟩
  | 46 => ⟨S10000x32x1, .f32⟩
  | 47 => ⟨S32x11, .f32⟩
  | 48 => ⟨S1x32x11, .f32⟩
  | 49 => ⟨S10000x32x11, .f32⟩
  | 50 => ⟨S10000x32x11, .f32⟩
  | 51 => ⟨S10000x32x11, .i1⟩
  | 52 => ⟨S32x11, .f32⟩
  | 53 => ⟨S1x32x11, .f32⟩
  | 54 => ⟨S10000x32x11, .f32⟩
  | 55 => ⟨S10000x32x11, .f32⟩
  | 56 => ⟨S10000x32x11, .i1⟩
  | 57 => ⟨S10000x32x11, .i1⟩
  | 58 => ⟨S10000x32x11, .f32⟩
  | 59 => ⟨S32x10, .f32⟩
  | 60 => ⟨S1x32x10, .f32⟩
  | 61 => ⟨S10000x32x10, .f32⟩
  | 62 => ⟨S10000x32x10, .f32⟩
  | 63 => ⟨S10000x32x10, .f32⟩
  | 64 => ⟨S32x10, .f32⟩
  | 65 => ⟨S1x32x10, .f32⟩
  | 66 => ⟨S32x10, .f32⟩
  | 67 => ⟨S1x32x10, .f32⟩
  | 68 => ⟨S1x32x10, .f32⟩
  | 69 => ⟨S10000x32x10, .f32⟩
  | 70 => ⟨S10000x32x10, .f32⟩
  | 71 => ⟨S32x10, .f32⟩
  | 72 => ⟨S1x32x10, .f32⟩
  | 73 => ⟨S10000x32x10, .f32⟩
  | 74 => ⟨S10000x32x10, .f32⟩
  | 75 => ⟨S10000x32x10, .f32⟩
  | 76 => ⟨S32x10, .f32⟩
  | 77 => ⟨S1x32x10, .f32⟩
  | 78 => ⟨S32x10, .f32⟩
  | 79 => ⟨S1x32x10, .f32⟩
  | 80 => ⟨S1x32x10, .f32⟩
  | 81 => ⟨S10000x32x10, .f32⟩
  | 82 => ⟨S10000x32x10, .f32⟩
  | 83 => ⟨S10000x32x10, .f32⟩
  | 84 => ⟨S10000x32x10, .f32⟩
  | 85 => ⟨S10000x32x10, .f32⟩
  | 86 => ⟨S10000x32x10, .f32⟩
  | 87 => ⟨S10000x32x10, .f32⟩
  | 88 => ⟨S32x9, .f32⟩
  | 89 => ⟨S1x32x9, .f32⟩
  | 90 => ⟨S10000x32x9, .f32⟩
  | 91 => ⟨S10000x32x9, .f32⟩
  | 92 => ⟨S10000x32x9, .f32⟩
  | 93 => ⟨S32x9, .f32⟩
  | 94 => ⟨S1x32x9, .f32⟩
  | 95 => ⟨S32x9, .f32⟩
  | 96 => ⟨S1x32x9, .f32⟩
  | 97 => ⟨S1x32x9, .f32⟩
  | 98 => ⟨S10000x32x9, .f32⟩
  | 99 => ⟨S10000x32x9, .f32⟩
  | 100 => ⟨S32x9, .f32⟩
  | 101 => ⟨S1x32x9, .f32⟩
  | 102 => ⟨S10000x32x9, .f32⟩
  | 103 => ⟨S10000x32x9, .f32⟩
  | 104 => ⟨S10000x32x9, .f32⟩
  | 105 => ⟨S32x9, .f32⟩
  | 106 => ⟨S1x32x9, .f32⟩
  | 107 => ⟨S32x9, .f32⟩
  | 108 => ⟨S1x32x9, .f32⟩
  | 109 => ⟨S1x32x9, .f32⟩
  | 110 => ⟨S10000x32x9, .f32⟩
  | 111 => ⟨S10000x32x9, .f32⟩
  | 112 => ⟨S10000x32x9, .f32⟩
  | 113 => ⟨S10000x32x9, .f32⟩
  | 114 => ⟨S10000x32x9, .f32⟩
  | 115 => ⟨S10000x32x9, .f32⟩
  | 116 => ⟨S10000x32x9, .f32⟩
  | 117 => ⟨S32x8, .f32⟩
  | 118 => ⟨S1x32x8, .f32⟩
  | 119 => ⟨S10000x32x8, .f32⟩
  | 120 => ⟨S10000x32x8, .f32⟩
  | 121 => ⟨S10000x32x8, .f32⟩
  | 122 => ⟨S32x8, .f32⟩
  | 123 => ⟨S1x32x8, .f32⟩
  | 124 => ⟨S32x8, .f32⟩
  | 125 => ⟨S1x32x8, .f32⟩
  | 126 => ⟨S1x32x8, .f32⟩
  | 127 => ⟨S10000x32x8, .f32⟩
  | _ => ⟨S10000x128, .f32⟩

abbrev hbmTy0_3 (i : Nat) : BufTy := match i % 128 with
  | 0 => ⟨S10000x32x8, .f32⟩
  | 1 => ⟨S32x8, .f32⟩
  | 2 => ⟨S1x32x8, .f32⟩
  | 3 => ⟨S10000x32x8, .f32⟩
  | 4 => ⟨S10000x32x8, .f32⟩
  | 5 => ⟨S10000x32x8, .f32⟩
  | 6 => ⟨S32x8, .f32⟩
  | 7 => ⟨S1x32x8, .f32⟩
  | 8 => ⟨S32x8, .f32⟩
  | 9 => ⟨S1x32x8, .f32⟩
  | 10 => ⟨S1x32x8, .f32⟩
  | 11 => ⟨S10000x32x8, .f32⟩
  | 12 => ⟨S10000x32x8, .f32⟩
  | 13 => ⟨S10000x32x8, .f32⟩
  | 14 => ⟨S10000x32x8, .f32⟩
  | 15 => ⟨S10000x32x8, .f32⟩
  | 16 => ⟨S10000x32x8, .f32⟩
  | 17 => ⟨S10000x32x8, .f32⟩
  | 18 => ⟨S10000x256, .f32⟩
  | 19 => ⟨S128x256, .f32⟩
  | 20 => ⟨S256x128, .f32⟩
  | 21 => ⟨S10000x128, .f32⟩
  | 22 => ⟨S10000x128, .f32⟩
  | 23 => ⟨S10000x256, .f32⟩
  | 24 => ⟨S_, .f32⟩
  | 25 => ⟨S_, .f32⟩
  | 26 => ⟨S_, .f32⟩
  | 27 => ⟨S12, .f32⟩
  | 28 => ⟨S_, .f32⟩
  | 29 => ⟨S12, .f32⟩
  | 30 => ⟨S12, .f32⟩
  | 31 => ⟨S12, .f32⟩
  | 32 => ⟨S12, .f32⟩
  | 33 => ⟨S_, .f32⟩
  | 34 => ⟨S12, .f32⟩
  | 35 => ⟨S12, .f32⟩
  | 36 => ⟨S1x12, .f32⟩
  | 37 => ⟨S1x1x1x12, .f32⟩
  | 38 => ⟨S256x1x1x12, .f32⟩
  | 39 => ⟨S256x12, .f32⟩
  | 40 => ⟨S10000x256, .f32⟩
  | 41 => ⟨S10000x256, .f32⟩
  | 42 => ⟨S_, .f32⟩
  | 43 => ⟨S10000x256, .f32⟩
  | 44 => ⟨S10000x256, .f32⟩
  | 45 => ⟨S_, .f32⟩
  | 46 => ⟨S10000x256, .f32⟩
  | 47 => ⟨S10000x256, .f32⟩
  | 48 => ⟨S10000x256, .f32⟩
  | 49 => ⟨S256x16, .f32⟩
  | 50 => ⟨S10000x16, .f32⟩
  | 51 => ⟨S16x256x1, .f32⟩
  | 52 => ⟨S16x256x8, .f32⟩
  | 53 => ⟨S16x256x8, .f32⟩
  | 54 => ⟨S10000x256x1, .f32⟩
  | 55 => ⟨S256x11, .f32⟩
  | 56 => ⟨S1x256x11, .f32⟩
  | 57 => ⟨S10000x256x11, .f32⟩
  | 58 => ⟨S10000x256x11, .f32⟩
  | 59 => ⟨S10000x256x11, .i1⟩
  | 60 => ⟨S256x11, .f32⟩
  | 61 => ⟨S1x256x11, .f32⟩
  | 62 => ⟨S10000x256x11, .f32⟩
  | 63 => ⟨S10000x256x11, .f32⟩
  | 64 => ⟨S10000x256x11, .i1⟩
  | 65 => ⟨S10000x256x11, .i1⟩
  | 66 => ⟨S10000x256x11, .f32⟩
  | 67 => ⟨S256x10, .f32⟩
  | 68 => ⟨S1x256x10, .f32⟩
  | 69 => ⟨S10000x256x10, .f32⟩
  | 70 => ⟨S10000x256x10, .f32⟩
  | 71 => ⟨S10000x256x10, .f32⟩
  | 72 => ⟨S256x10, .f32⟩
  | 73 => ⟨S1x256x10, .f32⟩
  | 74 => ⟨S256x10, .f32⟩
  | 75 => ⟨S1x256x10, .f32⟩
  | 76 => ⟨S1x256x10, .f32⟩
  | 77 => ⟨S10000x256x10, .f32⟩
  | 78 => ⟨S10000x256x10, .f32⟩
  | 79 => ⟨S256x10, .f32⟩
  | 80 => ⟨S1x256x10, .f32⟩
  | 81 => ⟨S10000x256x10, .f32⟩
  | 82 => ⟨S10000x256x10, .f32⟩
  | 83 => ⟨S10000x256x10, .f32⟩
  | 84 => ⟨S256x10, .f32⟩
  | 85 => ⟨S1x256x10, .f32⟩
  | 86 => ⟨S256x10, .f32⟩
  | 87 => ⟨S1x256x10, .f32⟩
  | 88 => ⟨S1x256x10, .f32⟩
  | 89 => ⟨S10000x256x10, .f32⟩
  | 90 => ⟨S10000x256x10, .f32⟩
  | 91 => ⟨S10000x256x10, .f32⟩
  | 92 => ⟨S10000x256x10, .f32⟩
  | 93 => ⟨S10000x256x10, .f32⟩
  | 94 => ⟨S10000x256x10, .f32⟩
  | 95 => ⟨S10000x256x10, .f32⟩
  | 96 => ⟨S256x9, .f32⟩
  | 97 => ⟨S1x256x9, .f32⟩
  | 98 => ⟨S10000x256x9, .f32⟩
  | 99 => ⟨S10000x256x9, .f32⟩
  | 100 => ⟨S10000x256x9, .f32⟩
  | 101 => ⟨S256x9, .f32⟩
  | 102 => ⟨S1x256x9, .f32⟩
  | 103 => ⟨S256x9, .f32⟩
  | 104 => ⟨S1x256x9, .f32⟩
  | 105 => ⟨S1x256x9, .f32⟩
  | 106 => ⟨S10000x256x9, .f32⟩
  | 107 => ⟨S10000x256x9, .f32⟩
  | 108 => ⟨S256x9, .f32⟩
  | 109 => ⟨S1x256x9, .f32⟩
  | 110 => ⟨S10000x256x9, .f32⟩
  | 111 => ⟨S10000x256x9, .f32⟩
  | 112 => ⟨S10000x256x9, .f32⟩
  | 113 => ⟨S256x9, .f32⟩
  | 114 => ⟨S1x256x9, .f32⟩
  | 115 => ⟨S256x9, .f32⟩
  | 116 => ⟨S1x256x9, .f32⟩
  | 117 => ⟨S1x256x9, .f32⟩
  | 118 => ⟨S10000x256x9, .f32⟩
  | 119 => ⟨S10000x256x9, .f32⟩
  | 120 => ⟨S10000x256x9, .f32⟩
  | 121 => ⟨S10000x256x9, .f32⟩
  | 122 => ⟨S10000x256x9, .f32⟩
  | 123 => ⟨S10000x256x9, .f32⟩
  | 124 => ⟨S10000x256x9, .f32⟩
  | 125 => ⟨S256x8, .f32⟩
  | 126 => ⟨S1x256x8, .f32⟩
  | 127 => ⟨S10000x256x8, .f32⟩
  | _ => ⟨S10000x128, .f32⟩

abbrev hbmTy0_4 (i : Nat) : BufTy := match i % 128 with
  | 0 => ⟨S10000x256x8, .f32⟩
  | 1 => ⟨S10000x256x8, .f32⟩
  | 2 => ⟨S256x8, .f32⟩
  | 3 => ⟨S1x256x8, .f32⟩
  | 4 => ⟨S256x8, .f32⟩
  | 5 => ⟨S1x256x8, .f32⟩
  | 6 => ⟨S1x256x8, .f32⟩
  | 7 => ⟨S10000x256x8, .f32⟩
  | 8 => ⟨S10000x256x8, .f32⟩
  | 9 => ⟨S256x8, .f32⟩
  | 10 => ⟨S1x256x8, .f32⟩
  | 11 => ⟨S10000x256x8, .f32⟩
  | 12 => ⟨S10000x256x8, .f32⟩
  | 13 => ⟨S10000x256x8, .f32⟩
  | 14 => ⟨S256x8, .f32⟩
  | 15 => ⟨S1x256x8, .f32⟩
  | 16 => ⟨S256x8, .f32⟩
  | 17 => ⟨S1x256x8, .f32⟩
  | 18 => ⟨S1x256x8, .f32⟩
  | 19 => ⟨S10000x256x8, .f32⟩
  | 20 => ⟨S10000x256x8, .f32⟩
  | 21 => ⟨S10000x256x8, .f32⟩
  | 22 => ⟨S10000x256x8, .f32⟩
  | 23 => ⟨S10000x256x8, .f32⟩
  | 24 => ⟨S10000x256x8, .f32⟩
  | 25 => ⟨S10000x256x8, .f32⟩
  | 26 => ⟨S10000x2048, .f32⟩
  | 27 => ⟨S16x2048, .f32⟩
  | 28 => ⟨S2048x16, .f32⟩
  | 29 => ⟨S10000x16, .f32⟩
  | 30 => ⟨S10000x16, .f32⟩
  | 31 => ⟨S_, .f32⟩
  | 32 => ⟨S_, .f32⟩
  | 33 => ⟨S_, .f32⟩
  | 34 => ⟨S12, .f32⟩
  | 35 => ⟨S_, .f32⟩
  | 36 => ⟨S12, .f32⟩
  | 37 => ⟨S12, .f32⟩
  | 38 => ⟨S12, .f32⟩
  | 39 => ⟨S12, .f32⟩
  | 40 => ⟨S_, .f32⟩
  | 41 => ⟨S12, .f32⟩
  | 42 => ⟨S12, .f32⟩
  | 43 => ⟨S1x12, .f32⟩
  | 44 => ⟨S1x1x1x12, .f32⟩
  | 45 => ⟨S16x1x1x12, .f32⟩
  | 46 => ⟨S16x12, .f32⟩
  | 47 => ⟨S10000x16, .f32⟩
  | 48 => ⟨S10000x16, .f32⟩
  | 49 => ⟨S_, .f32⟩
  | 50 => ⟨S10000x16, .f32⟩
  | 51 => ⟨S10000x16, .f32⟩
  | 52 => ⟨S_, .f32⟩
  | 53 => ⟨S10000x16, .f32⟩
  | 54 => ⟨S10000x16, .f32⟩
  | 55 => ⟨S10000x16, .f32⟩
  | 56 => ⟨S16x10, .f32⟩
  | 57 => ⟨S10000x10, .f32⟩
  | 58 => ⟨S10x16x1, .f32⟩
  | 59 => ⟨S10x16x8, .f32⟩
  | 60 => ⟨S10x16x8, .f32⟩
  | 61 => ⟨S10000x16x1, .f32⟩
  | 62 => ⟨S16x11, .f32⟩
  | 63 => ⟨S1x16x11, .f32⟩
  | 64 => ⟨S10000x16x11, .f32⟩
  | 65 => ⟨S10000x16x11, .f32⟩
  | 66 => ⟨S10000x16x11, .i1⟩
  | 67 => ⟨S16x11, .f32⟩
  | 68 => ⟨S1x16x11, .f32⟩
  | 69 => ⟨S10000x16x11, .f32⟩
  | 70 => ⟨S10000x16x11, .f32⟩
  | 71 => ⟨S10000x16x11, .i1⟩
  | 72 => ⟨S10000x16x11, .i1⟩
  | 73 => ⟨S10000x16x11, .f32⟩
  | 74 => ⟨S16x10, .f32⟩
  | 75 => ⟨S1x16x10, .f32⟩
  | 76 => ⟨S10000x16x10, .f32⟩
  | 77 => ⟨S10000x16x10, .f32⟩
  | 78 => ⟨S10000x16x10, .f32⟩
  | 79 => ⟨S16x10, .f32⟩
  | 80 => ⟨S1x16x10, .f32⟩
  | 81 => ⟨S16x10, .f32⟩
  | 82 => ⟨S1x16x10, .f32⟩
  | 83 => ⟨S1x16x10, .f32⟩
  | 84 => ⟨S10000x16x10, .f32⟩
  | 85 => ⟨S10000x16x10, .f32⟩
  | 86 => ⟨S16x10, .f32⟩
  | 87 => ⟨S1x16x10, .f32⟩
  | 88 => ⟨S10000x16x10, .f32⟩
  | 89 => ⟨S10000x16x10, .f32⟩
  | 90 => ⟨S10000x16x10, .f32⟩
  | 91 => ⟨S16x10, .f32⟩
  | 92 => ⟨S1x16x10, .f32⟩
  | 93 => ⟨S16x10, .f32⟩
  | 94 => ⟨S1x16x10, .f32⟩
  | 95 => ⟨S1x16x10, .f32⟩
  | 96 => ⟨S10000x16x10, .f32⟩
  | 97 => ⟨S10000x16x10, .f32⟩
  | 98 => ⟨S10000x16x10, .f32⟩
  | 99 => ⟨S10000x16x10, .f32⟩
  | 100 => ⟨S10000x16x10, .f32⟩
  | 101 => ⟨S10000x16x10, .f32⟩
  | 102 => ⟨S10000x16x10, .f32⟩
  | 103 => ⟨S16x9, .f32⟩
  | 104 => ⟨S1x16x9, .f32⟩
  | 105 => ⟨S10000x16x9, .f32⟩
  | 106 => ⟨S10000x16x9, .f32⟩
  | 107 => ⟨S10000x16x9, .f32⟩
  | 108 => ⟨S16x9, .f32⟩
  | 109 => ⟨S1x16x9, .f32⟩
  | 110 => ⟨S16x9, .f32⟩
  | 111 => ⟨S1x16x9, .f32⟩
  | 112 => ⟨S1x16x9, .f32⟩
  | 113 => ⟨S10000x16x9, .f32⟩
  | 114 => ⟨S10000x16x9, .f32⟩
  | 115 => ⟨S16x9, .f32⟩
  | 116 => ⟨S1x16x9, .f32⟩
  | 117 => ⟨S10000x16x9, .f32⟩
  | 118 => ⟨S10000x16x9, .f32⟩
  | 119 => ⟨S10000x16x9, .f32⟩
  | 120 => ⟨S16x9, .f32⟩
  | 121 => ⟨S1x16x9, .f32⟩
  | 122 => ⟨S16x9, .f32⟩
  | 123 => ⟨S1x16x9, .f32⟩
  | 124 => ⟨S1x16x9, .f32⟩
  | 125 => ⟨S10000x16x9, .f32⟩
  | 126 => ⟨S10000x16x9, .f32⟩
  | 127 => ⟨S10000x16x9, .f32⟩
  | _ => ⟨S10000x128, .f32⟩

abbrev hbmTy0_5 (i : Nat) : BufTy := match i % 128 with
  | 0 => ⟨S10000x16x9, .f32⟩
  | 1 => ⟨S10000x16x9, .f32⟩
  | 2 => ⟨S10000x16x9, .f32⟩
  | 3 => ⟨S10000x16x9, .f32⟩
  | 4 => ⟨S16x8, .f32⟩
  | 5 => ⟨S1x16x8, .f32⟩
  | 6 => ⟨S10000x16x8, .f32⟩
  | 7 => ⟨S10000x16x8, .f32⟩
  | 8 => ⟨S10000x16x8, .f32⟩
  | 9 => ⟨S16x8, .f32⟩
  | 10 => ⟨S1x16x8, .f32⟩
  | 11 => ⟨S16x8, .f32⟩
  | 12 => ⟨S1x16x8, .f32⟩
  | 13 => ⟨S1x16x8, .f32⟩
  | 14 => ⟨S10000x16x8, .f32⟩
  | 15 => ⟨S10000x16x8, .f32⟩
  | 16 => ⟨S16x8, .f32⟩
  | 17 => ⟨S1x16x8, .f32⟩
  | 18 => ⟨S10000x16x8, .f32⟩
  | 19 => ⟨S10000x16x8, .f32⟩
  | 20 => ⟨S10000x16x8, .f32⟩
  | 21 => ⟨S16x8, .f32⟩
  | 22 => ⟨S1x16x8, .f32⟩
  | 23 => ⟨S16x8, .f32⟩
  | 24 => ⟨S1x16x8, .f32⟩
  | 25 => ⟨S1x16x8, .f32⟩
  | 26 => ⟨S10000x16x8, .f32⟩
  | 27 => ⟨S10000x16x8, .f32⟩
  | 28 => ⟨S10000x16x8, .f32⟩
  | 29 => ⟨S10000x16x8, .f32⟩
  | 30 => ⟨S10000x16x8, .f32⟩
  | 31 => ⟨S10000x16x8, .f32⟩
  | 32 => ⟨S10000x16x8, .f32⟩
  | 33 => ⟨S10000x128, .f32⟩
  | 34 => ⟨S10x128, .f32⟩
  | 35 => ⟨S128x10, .f32⟩
  | 36 => ⟨S10000x10, .f32⟩
  | 37 => ⟨S10000x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_c : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_cst_1 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_call1_cst : Ref sig .tc := ⟨.hbm, 74, rfl⟩
abbrev main_call1_v0 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_2 : Ref sig .tc := ⟨.hbm, 82, rfl⟩
abbrev main_v30 : Ref sig .tc := ⟨.hbm, 83, rfl⟩
abbrev main_cst_3 : Ref sig .tc := ⟨.hbm, 84, rfl⟩
abbrev main_v31 : Ref sig .tc := ⟨.hbm, 85, rfl⟩
abbrev main_v32 : Ref sig .tc := ⟨.hbm, 86, rfl⟩
abbrev main_c_4 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_cst_3 : Ref sig .tc := ⟨.hbm, 104, rfl⟩
abbrev main_call2_v12 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_cst_5 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_call3_cst : Ref sig .tc := ⟨.hbm, 126, rfl⟩
abbrev main_call3_v0 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_call4_cst : Ref sig .tc := ⟨.hbm, 134, rfl⟩
abbrev main_call4_v0 : Ref sig .tc := ⟨.hbm, 135, rfl⟩
abbrev main_v55 : Ref sig .tc := ⟨.hbm, 136, rfl⟩
abbrev main_cst_6 : Ref sig .tc := ⟨.hbm, 137, rfl⟩
abbrev main_cst_7 : Ref sig .tc := ⟨.hbm, 138, rfl⟩
abbrev main_v56 : Ref sig .tc := ⟨.hbm, 139, rfl⟩
abbrev main_v57 : Ref sig .tc := ⟨.hbm, 140, rfl⟩
abbrev main_cst_8 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_cst_9 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_cst_10 : Ref sig .tc := ⟨.hbm, 272, rfl⟩
abbrev main_cst_11 : Ref sig .tc := ⟨.hbm, 273, rfl⟩
abbrev main_v179 : Ref sig .tc := ⟨.hbm, 274, rfl⟩
abbrev main_v180 : Ref sig .tc := ⟨.hbm, 275, rfl⟩
abbrev main_cst_12 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_cst_13 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_call6_v0 : Ref sig .tc := ⟨.hbm, 288, rfl⟩
abbrev main_call6_v1 : Ref sig .tc := ⟨.hbm, 289, rfl⟩
abbrev main_call6_cst : Ref sig .tc := ⟨.hbm, 290, rfl⟩
abbrev main_call6_v2 : Ref sig .tc := ⟨.hbm, 291, rfl⟩
abbrev main_call6_v3 : Ref sig .tc := ⟨.hbm, 292, rfl⟩
abbrev main_call6_cst_0 : Ref sig .tc := ⟨.hbm, 293, rfl⟩
abbrev main_call6_v4 : Ref sig .tc := ⟨.hbm, 294, rfl⟩
abbrev main_call6_v5 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_v250 : Ref sig .tc := ⟨.hbm, 355, rfl⟩
abbrev main_v251 : Ref sig .tc := ⟨.hbm, 356, rfl⟩
abbrev main_v252 : Ref sig .tc := ⟨.hbm, 357, rfl⟩
abbrev main_v253 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_v286 : Ref sig .tc := ⟨.hbm, 391, rfl⟩
abbrev main_v287 : Ref sig .tc := ⟨.hbm, 392, rfl⟩
abbrev main_v288 : Ref sig .tc := ⟨.hbm, 393, rfl⟩
abbrev main_v289 : Ref sig .tc := ⟨.hbm, 394, rfl⟩
abbrev main_v290 : Ref sig .tc := ⟨.hbm, 395, rfl⟩
abbrev main_v291 : Ref sig .tc := ⟨.hbm, 396, rfl⟩
abbrev main_v292 : Ref sig .tc := ⟨.hbm, 397, rfl⟩
abbrev main_v293 : Ref sig .tc := ⟨.hbm, 398, rfl⟩
abbrev main_v294 : Ref sig .tc := ⟨.hbm, 399, rfl⟩
abbrev main_v295 : Ref sig .tc := ⟨.hbm, 400, rfl⟩
abbrev main_v296 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_cst_14 : Ref sig .tc := ⟨.hbm, 408, rfl⟩
abbrev main_cst_15 : Ref sig .tc := ⟨.hbm, 409, rfl⟩
abbrev main_v303 : Ref sig .tc := ⟨.hbm, 410, rfl⟩
abbrev main_v304 : Ref sig .tc := ⟨.hbm, 411, rfl⟩
abbrev main_cst_16 : Ref sig .tc := ⟨.hbm, 412, rfl⟩
abbrev main_v305 : Ref sig .tc := ⟨.hbm, 413, rfl⟩
abbrev main_v306 : Ref sig .tc := ⟨.hbm, 414, rfl⟩
abbrev main_v307 : Ref sig .tc := ⟨.hbm, 415, rfl⟩
abbrev main_v308 : Ref sig .tc := ⟨.hbm, 416, rfl⟩
abbrev main_cst_17 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_v312 : Ref sig .tc := ⟨.hbm, 421, rfl⟩
abbrev main_v313 : Ref sig .tc := ⟨.hbm, 422, rfl⟩
abbrev main_v314 : Ref sig .tc := ⟨.hbm, 423, rfl⟩
abbrev main_call7_v0 : Ref sig .tc := ⟨.hbm, 424, rfl⟩
abbrev main_call7_v1 : Ref sig .tc := ⟨.hbm, 425, rfl⟩
abbrev main_call7_cst : Ref sig .tc := ⟨.hbm, 426, rfl⟩
abbrev main_call7_v2 : Ref sig .tc := ⟨.hbm, 427, rfl⟩
abbrev main_call7_v3 : Ref sig .tc := ⟨.hbm, 428, rfl⟩
abbrev main_call7_cst_0 : Ref sig .tc := ⟨.hbm, 429, rfl⟩
abbrev main_call7_v4 : Ref sig .tc := ⟨.hbm, 430, rfl⟩
abbrev main_call7_v5 : Ref sig .tc := ⟨.hbm, 431, rfl⟩
abbrev main_v315 : Ref sig .tc := ⟨.hbm, 432, rfl⟩
abbrev main_v316 : Ref sig .tc := ⟨.hbm, 433, rfl⟩
abbrev main_v317 : Ref sig .tc := ⟨.hbm, 434, rfl⟩
abbrev main_v318 : Ref sig .tc := ⟨.hbm, 435, rfl⟩
abbrev main_v319 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_v323 : Ref sig .tc := ⟨.hbm, 440, rfl⟩
abbrev main_v324 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_v328 : Ref sig .tc := ⟨.hbm, 445, rfl⟩
abbrev main_v329 : Ref sig .tc := ⟨.hbm, 446, rfl⟩
abbrev main_v330 : Ref sig .tc := ⟨.hbm, 447, rfl⟩
abbrev main_v331 : Ref sig .tc := ⟨.hbm, 448, rfl⟩
abbrev main_v332 : Ref sig .tc := ⟨.hbm, 449, rfl⟩
abbrev main_v333 : Ref sig .tc := ⟨.hbm, 450, rfl⟩
abbrev main_v334 : Ref sig .tc := ⟨.hbm, 451, rfl⟩
abbrev main_v335 : Ref sig .tc := ⟨.hbm, 452, rfl⟩
abbrev main_v336 : Ref sig .tc := ⟨.hbm, 453, rfl⟩
abbrev main_v337 : Ref sig .tc := ⟨.hbm, 454, rfl⟩
abbrev main_v338 : Ref sig .tc := ⟨.hbm, 455, rfl⟩
abbrev main_v339 : Ref sig .tc := ⟨.hbm, 456, rfl⟩
abbrev main_v340 : Ref sig .tc := ⟨.hbm, 457, rfl⟩
abbrev main_v341 : Ref sig .tc := ⟨.hbm, 458, rfl⟩
abbrev main_v342 : Ref sig .tc := ⟨.hbm, 459, rfl⟩
abbrev main_v343 : Ref sig .tc := ⟨.hbm, 460, rfl⟩
abbrev main_v344 : Ref sig .tc := ⟨.hbm, 461, rfl⟩
abbrev main_v345 : Ref sig .tc := ⟨.hbm, 462, rfl⟩
abbrev main_v346 : Ref sig .tc := ⟨.hbm, 463, rfl⟩
abbrev main_v347 : Ref sig .tc := ⟨.hbm, 464, rfl⟩
abbrev main_v348 : Ref sig .tc := ⟨.hbm, 465, rfl⟩
abbrev main_v349 : Ref sig .tc := ⟨.hbm, 466, rfl⟩
abbrev main_v350 : Ref sig .tc := ⟨.hbm, 467, rfl⟩
abbrev main_v351 : Ref sig .tc := ⟨.hbm, 468, rfl⟩
abbrev main_v352 : Ref sig .tc := ⟨.hbm, 469, rfl⟩
abbrev main_v353 : Ref sig .tc := ⟨.hbm, 470, rfl⟩
abbrev main_v354 : Ref sig .tc := ⟨.hbm, 471, rfl⟩
abbrev main_v355 : Ref sig .tc := ⟨.hbm, 472, rfl⟩
abbrev main_v356 : Ref sig .tc := ⟨.hbm, 473, rfl⟩
abbrev main_v357 : Ref sig .tc := ⟨.hbm, 474, rfl⟩
abbrev main_v358 : Ref sig .tc := ⟨.hbm, 475, rfl⟩
abbrev main_v359 : Ref sig .tc := ⟨.hbm, 476, rfl⟩
abbrev main_v360 : Ref sig .tc := ⟨.hbm, 477, rfl⟩
abbrev main_v361 : Ref sig .tc := ⟨.hbm, 478, rfl⟩
abbrev main_v362 : Ref sig .tc := ⟨.hbm, 479, rfl⟩
abbrev main_v363 : Ref sig .tc := ⟨.hbm, 480, rfl⟩
abbrev main_v364 : Ref sig .tc := ⟨.hbm, 481, rfl⟩
abbrev main_v365 : Ref sig .tc := ⟨.hbm, 482, rfl⟩
abbrev main_v366 : Ref sig .tc := ⟨.hbm, 483, rfl⟩
abbrev main_v367 : Ref sig .tc := ⟨.hbm, 484, rfl⟩
abbrev main_v368 : Ref sig .tc := ⟨.hbm, 485, rfl⟩
abbrev main_v369 : Ref sig .tc := ⟨.hbm, 486, rfl⟩
abbrev main_v370 : Ref sig .tc := ⟨.hbm, 487, rfl⟩
abbrev main_v371 : Ref sig .tc := ⟨.hbm, 488, rfl⟩
abbrev main_v372 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_v377 : Ref sig .tc := ⟨.hbm, 494, rfl⟩
abbrev main_v378 : Ref sig .tc := ⟨.hbm, 495, rfl⟩
abbrev main_v379 : Ref sig .tc := ⟨.hbm, 496, rfl⟩
abbrev main_v380 : Ref sig .tc := ⟨.hbm, 497, rfl⟩
abbrev main_v381 : Ref sig .tc := ⟨.hbm, 498, rfl⟩
abbrev main_v382 : Ref sig .tc := ⟨.hbm, 499, rfl⟩
abbrev main_v383 : Ref sig .tc := ⟨.hbm, 500, rfl⟩
abbrev main_v384 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev main_v390 : Ref sig .tc := ⟨.hbm, 507, rfl⟩
abbrev main_v391 : Ref sig .tc := ⟨.hbm, 508, rfl⟩
abbrev main_v392 : Ref sig .tc := ⟨.hbm, 509, rfl⟩
abbrev main_v393 : Ref sig .tc := ⟨.hbm, 510, rfl⟩
abbrev main_v394 : Ref sig .tc := ⟨.hbm, 511, rfl⟩
abbrev main_v395 : Ref sig .tc := ⟨.hbm, 512, rfl⟩
abbrev main_v396 : Ref sig .tc := ⟨.hbm, 513, rfl⟩
abbrev main_v397 : Ref sig .tc := ⟨.hbm, 514, rfl⟩
abbrev main_v398 : Ref sig .tc := ⟨.hbm, 515, rfl⟩
abbrev main_v399 : Ref sig .tc := ⟨.hbm, 516, rfl⟩
abbrev main_v400 : Ref sig .tc := ⟨.hbm, 517, rfl⟩
abbrev main_v401 : Ref sig .tc := ⟨.hbm, 518, rfl⟩
abbrev main_v402 : Ref sig .tc := ⟨.hbm, 519, rfl⟩
abbrev main_v403 : Ref sig .tc := ⟨.hbm, 520, rfl⟩
abbrev main_v404 : Ref sig .tc := ⟨.hbm, 521, rfl⟩
abbrev main_v405 : Ref sig .tc := ⟨.hbm, 522, rfl⟩
abbrev main_v406 : Ref sig .tc := ⟨.hbm, 523, rfl⟩
abbrev main_v407 : Ref sig .tc := ⟨.hbm, 524, rfl⟩
abbrev main_v408 : Ref sig .tc := ⟨.hbm, 525, rfl⟩
abbrev main_v409 : Ref sig .tc := ⟨.hbm, 526, rfl⟩
abbrev main_v410 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_v415 : Ref sig .tc := ⟨.hbm, 532, rfl⟩
abbrev main_v416 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_cst_18 : Ref sig .tc := ⟨.hbm, 543, rfl⟩
abbrev main_cst_19 : Ref sig .tc := ⟨.hbm, 544, rfl⟩
abbrev main_v426 : Ref sig .tc := ⟨.hbm, 545, rfl⟩
abbrev main_v427 : Ref sig .tc := ⟨.hbm, 546, rfl⟩
abbrev main_cst_20 : Ref sig .tc := ⟨.hbm, 547, rfl⟩
abbrev main_v428 : Ref sig .tc := ⟨.hbm, 548, rfl⟩
abbrev main_v429 : Ref sig .tc := ⟨.hbm, 549, rfl⟩
abbrev main_v430 : Ref sig .tc := ⟨.hbm, 550, rfl⟩
abbrev main_v431 : Ref sig .tc := ⟨.hbm, 551, rfl⟩
abbrev main_cst_21 : Ref sig .tc := ⟨.hbm, 552, rfl⟩
abbrev main_v432 : Ref sig .tc := ⟨.hbm, 553, rfl⟩
abbrev main_v433 : Ref sig .tc := ⟨.hbm, 554, rfl⟩
abbrev main_v434 : Ref sig .tc := ⟨.hbm, 555, rfl⟩
abbrev main_v435 : Ref sig .tc := ⟨.hbm, 556, rfl⟩
abbrev main_v436 : Ref sig .tc := ⟨.hbm, 557, rfl⟩
abbrev main_v437 : Ref sig .tc := ⟨.hbm, 558, rfl⟩
abbrev main_call8_v0 : Ref sig .tc := ⟨.hbm, 559, rfl⟩
abbrev main_call8_v1 : Ref sig .tc := ⟨.hbm, 560, rfl⟩
abbrev main_call8_cst : Ref sig .tc := ⟨.hbm, 561, rfl⟩
abbrev main_call8_v2 : Ref sig .tc := ⟨.hbm, 562, rfl⟩
abbrev main_call8_v3 : Ref sig .tc := ⟨.hbm, 563, rfl⟩
abbrev main_call8_cst_0 : Ref sig .tc := ⟨.hbm, 564, rfl⟩
abbrev main_call8_v4 : Ref sig .tc := ⟨.hbm, 565, rfl⟩
abbrev main_call8_v5 : Ref sig .tc := ⟨.hbm, 566, rfl⟩
abbrev main_v438 : Ref sig .tc := ⟨.hbm, 567, rfl⟩
abbrev main_v439 : Ref sig .tc := ⟨.hbm, 568, rfl⟩
abbrev main_v440 : Ref sig .tc := ⟨.hbm, 569, rfl⟩
abbrev main_v441 : Ref sig .tc := ⟨.hbm, 570, rfl⟩
abbrev main_v442 : Ref sig .tc := ⟨.hbm, 571, rfl⟩
abbrev main_v443 : Ref sig .tc := ⟨.hbm, 572, rfl⟩
abbrev main_v444 : Ref sig .tc := ⟨.hbm, 573, rfl⟩
abbrev main_v445 : Ref sig .tc := ⟨.hbm, 574, rfl⟩
abbrev main_v446 : Ref sig .tc := ⟨.hbm, 575, rfl⟩
abbrev main_v447 : Ref sig .tc := ⟨.hbm, 576, rfl⟩
abbrev main_v448 : Ref sig .tc := ⟨.hbm, 577, rfl⟩
abbrev main_v449 : Ref sig .tc := ⟨.hbm, 578, rfl⟩
abbrev main_v450 : Ref sig .tc := ⟨.hbm, 579, rfl⟩
abbrev main_v451 : Ref sig .tc := ⟨.hbm, 580, rfl⟩
abbrev main_v452 : Ref sig .tc := ⟨.hbm, 581, rfl⟩
abbrev main_v453 : Ref sig .tc := ⟨.hbm, 582, rfl⟩
abbrev main_v454 : Ref sig .tc := ⟨.hbm, 583, rfl⟩
abbrev main_v455 : Ref sig .tc := ⟨.hbm, 584, rfl⟩
abbrev main_v456 : Ref sig .tc := ⟨.hbm, 585, rfl⟩
abbrev main_v457 : Ref sig .tc := ⟨.hbm, 586, rfl⟩
abbrev main_v458 : Ref sig .tc := ⟨.hbm, 587, rfl⟩
abbrev main_v459 : Ref sig .tc := ⟨.hbm, 588, rfl⟩
abbrev main_v460 : Ref sig .tc := ⟨.hbm, 589, rfl⟩
abbrev main_v461 : Ref sig .tc := ⟨.hbm, 590, rfl⟩
abbrev main_v462 : Ref sig .tc := ⟨.hbm, 591, rfl⟩
abbrev main_v463 : Ref sig .tc := ⟨.hbm, 592, rfl⟩
abbrev main_v464 : Ref sig .tc := ⟨.hbm, 593, rfl⟩
abbrev main_v465 : Ref sig .tc := ⟨.hbm, 594, rfl⟩
abbrev main_v466 : Ref sig .tc := ⟨.hbm, 595, rfl⟩
abbrev main_v467 : Ref sig .tc := ⟨.hbm, 596, rfl⟩
abbrev main_v468 : Ref sig .tc := ⟨.hbm, 597, rfl⟩
abbrev main_v469 : Ref sig .tc := ⟨.hbm, 598, rfl⟩
abbrev main_v470 : Ref sig .tc := ⟨.hbm, 599, rfl⟩
abbrev main_v471 : Ref sig .tc := ⟨.hbm, 600, rfl⟩
abbrev main_v472 : Ref sig .tc := ⟨.hbm, 601, rfl⟩
abbrev main_v473 : Ref sig .tc := ⟨.hbm, 602, rfl⟩
abbrev main_v474 : Ref sig .tc := ⟨.hbm, 603, rfl⟩
abbrev main_v475 : Ref sig .tc := ⟨.hbm, 604, rfl⟩
abbrev main_v476 : Ref sig .tc := ⟨.hbm, 605, rfl⟩
abbrev main_v477 : Ref sig .tc := ⟨.hbm, 606, rfl⟩
abbrev main_v478 : Ref sig .tc := ⟨.hbm, 607, rfl⟩
abbrev main_v479 : Ref sig .tc := ⟨.hbm, 608, rfl⟩
abbrev main_v480 : Ref sig .tc := ⟨.hbm, 609, rfl⟩
abbrev main_v481 : Ref sig .tc := ⟨.hbm, 610, rfl⟩
abbrev main_v482 : Ref sig .tc := ⟨.hbm, 611, rfl⟩
abbrev main_v483 : Ref sig .tc := ⟨.hbm, 612, rfl⟩
abbrev main_v484 : Ref sig .tc := ⟨.hbm, 613, rfl⟩
abbrev main_v485 : Ref sig .tc := ⟨.hbm, 614, rfl⟩
abbrev main_v486 : Ref sig .tc := ⟨.hbm, 615, rfl⟩
abbrev main_v487 : Ref sig .tc := ⟨.hbm, 616, rfl⟩
abbrev main_v488 : Ref sig .tc := ⟨.hbm, 617, rfl⟩
abbrev main_v489 : Ref sig .tc := ⟨.hbm, 618, rfl⟩
abbrev main_v490 : Ref sig .tc := ⟨.hbm, 619, rfl⟩
abbrev main_v491 : Ref sig .tc := ⟨.hbm, 620, rfl⟩
abbrev main_v492 : Ref sig .tc := ⟨.hbm, 621, rfl⟩
abbrev main_v493 : Ref sig .tc := ⟨.hbm, 622, rfl⟩
abbrev main_v494 : Ref sig .tc := ⟨.hbm, 623, rfl⟩
abbrev main_v495 : Ref sig .tc := ⟨.hbm, 624, rfl⟩
abbrev main_v496 : Ref sig .tc := ⟨.hbm, 625, rfl⟩
abbrev main_v497 : Ref sig .tc := ⟨.hbm, 626, rfl⟩
abbrev main_v498 : Ref sig .tc := ⟨.hbm, 627, rfl⟩
abbrev main_v499 : Ref sig .tc := ⟨.hbm, 628, rfl⟩
abbrev main_v500 : Ref sig .tc := ⟨.hbm, 629, rfl⟩
abbrev main_v501 : Ref sig .tc := ⟨.hbm, 630, rfl⟩
abbrev main_v502 : Ref sig .tc := ⟨.hbm, 631, rfl⟩
abbrev main_v503 : Ref sig .tc := ⟨.hbm, 632, rfl⟩
abbrev main_v504 : Ref sig .tc := ⟨.hbm, 633, rfl⟩
abbrev main_v505 : Ref sig .tc := ⟨.hbm, 634, rfl⟩
abbrev main_v506 : Ref sig .tc := ⟨.hbm, 635, rfl⟩
abbrev main_v507 : Ref sig .tc := ⟨.hbm, 636, rfl⟩
abbrev main_v508 : Ref sig .tc := ⟨.hbm, 637, rfl⟩
abbrev main_v509 : Ref sig .tc := ⟨.hbm, 638, rfl⟩
abbrev main_v510 : Ref sig .tc := ⟨.hbm, 639, rfl⟩
abbrev main_v511 : Ref sig .tc := ⟨.hbm, 640, rfl⟩
abbrev main_v512 : Ref sig .tc := ⟨.hbm, 641, rfl⟩
abbrev main_v513 : Ref sig .tc := ⟨.hbm, 642, rfl⟩
abbrev main_v514 : Ref sig .tc := ⟨.hbm, 643, rfl⟩
abbrev main_v515 : Ref sig .tc := ⟨.hbm, 644, rfl⟩
abbrev main_v516 : Ref sig .tc := ⟨.hbm, 645, rfl⟩
abbrev main_v517 : Ref sig .tc := ⟨.hbm, 646, rfl⟩
abbrev main_v518 : Ref sig .tc := ⟨.hbm, 647, rfl⟩
abbrev main_v519 : Ref sig .tc := ⟨.hbm, 648, rfl⟩
abbrev main_v520 : Ref sig .tc := ⟨.hbm, 649, rfl⟩
abbrev main_v521 : Ref sig .tc := ⟨.hbm, 650, rfl⟩
abbrev main_v522 : Ref sig .tc := ⟨.hbm, 651, rfl⟩
abbrev main_v523 : Ref sig .tc := ⟨.hbm, 652, rfl⟩
abbrev main_v524 : Ref sig .tc := ⟨.hbm, 653, rfl⟩
abbrev main_v525 : Ref sig .tc := ⟨.hbm, 654, rfl⟩
abbrev main_v526 : Ref sig .tc := ⟨.hbm, 655, rfl⟩
abbrev main_v527 : Ref sig .tc := ⟨.hbm, 656, rfl⟩
abbrev main_v528 : Ref sig .tc := ⟨.hbm, 657, rfl⟩
abbrev main_v529 : Ref sig .tc := ⟨.hbm, 658, rfl⟩
abbrev main_v530 : Ref sig .tc := ⟨.hbm, 659, rfl⟩
abbrev main_v531 : Ref sig .tc := ⟨.hbm, 660, rfl⟩
abbrev main_v532 : Ref sig .tc := ⟨.hbm, 661, rfl⟩
abbrev main_v533 : Ref sig .tc := ⟨.hbm, 662, rfl⟩
abbrev main_v534 : Ref sig .tc := ⟨.hbm, 663, rfl⟩
abbrev main_v535 : Ref sig .tc := ⟨.hbm, 664, rfl⟩
abbrev main_v536 : Ref sig .tc := ⟨.hbm, 665, rfl⟩
abbrev main_v537 : Ref sig .tc := ⟨.hbm, 666, rfl⟩
abbrev main_v538 : Ref sig .tc := ⟨.hbm, 667, rfl⟩
abbrev main_v539 : Ref sig .tc := ⟨.hbm, 668, rfl⟩
abbrev main_v540 : Ref sig .tc := ⟨.hbm, 669, rfl⟩
abbrev main_v541 : Ref sig .tc := ⟨.hbm, 670, rfl⟩
abbrev main_v542 : Ref sig .tc := ⟨.hbm, 671, rfl⟩
abbrev main_v543 : Ref sig .tc := ⟨.hbm, 672, rfl⟩
abbrev main_v544 : Ref sig .tc := ⟨.hbm, 673, rfl⟩
abbrev main_v545 : Ref sig .tc := ⟨.hbm, 674, rfl⟩
abbrev main_v546 : Ref sig .tc := ⟨.hbm, 675, rfl⟩
abbrev main_v547 : Ref sig .tc := ⟨.hbm, 676, rfl⟩
abbrev main_v548 : Ref sig .tc := ⟨.hbm, 677, rfl⟩

abbrev nD : Nat := 1
abbrev τ : Topo := Topo.v7x

variable {F : FTy → Type} [FloatOps F]
-- ==== Proof.IdealBody.lean ====
/-
  The kernel body at one grid point, phase by phase.

  The body has three phases over the thirty grid points. Phase one (points 0 to 9) writes one block of rows of the first
  hidden layer into a scratch array and adds its column sums and sums of squares to a small scratch array. Phase two
  (points 10 to 19) normalises a block of the first layer, multiplies it by the second weight and does the same with
  two further scratch arrays. Phase three (points 20 to 29) normalises a block of the second layer and runs the spline
  layers into the output block. Each theorem below says what one phase leaves in the buffers it touches, in terms of
  the named payloads of the kernel, whatever the buffers held before.
-/
module

public import proofs.«01_k».proof.Proof.Gen.KernelIdeal.Frame
public import proofs.«01_k».proof.Proof.Gen.KernelIdeal.Skeleton
public import Idealize.ShloMosaic.Lib.Tactic
public import Idealize.ShloMosaic.Lib.WritesUnit
public import Idealize.ShloMosaic.Lib.ValueIdxCore
public import Idealize.ShloMosaic.Lib.Pipeline.ValueKit.Tiles

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the reset: the first grid point. -/
abbrev condZ (i : grid0.Coords) : Prop := (Scalar.cmpi .ne (Scalar.extui (Scalar.cmpi .eq (BitVec.ofNat 32 (i 0).val) 0#32)) 0#32) = 1#1

/-- The offset of a whole array is zero in both directions. -/
theorem hz2 : (![0, 0] : Fin 2 → Nat) = fun _ => 0 := funext fun a => by fin_cases a <;> rfl

/-- Block `k` of one thousand rows of a ten-thousand-row array. -/
def rowsGet {F : FTy → Type} (k : ℕ) (s : Vec F S10000x512 .f32) : Vec F S1000x512 .f32 := fun y =>
  s (Idealize.ShloMosaic.ValueIdx.ix2 (⟨(1000 * k + (y (0 : Fin 2)).val) % 10000, Nat.mod_lt _ (by decide)⟩ : Fin 10000) (y (1 : Fin 2)))

/-- A ten-thousand-row array with block `k` of one thousand rows replaced. -/
def rowsPut {F : FTy → Type} (k : ℕ) (s : Vec F S10000x512 .f32) (v : Vec F S1000x512 .f32) : Vec F S10000x512 .f32 := fun y =>
  if (y (0 : Fin 2)).val / 1000 = k then
    v (Idealize.ShloMosaic.ValueIdx.ix2 (⟨(y (0 : Fin 2)).val % 1000, Nat.mod_lt _ (by decide)⟩ : Fin 1000) (y (1 : Fin 2)))
  else s y

/-- The block just stored is what is loaded. -/
theorem rowsGet_put_self {F : FTy → Type} {k : ℕ} (hk : k < 10) (s : Vec F S10000x512 .f32) (v : Vec F S1000x512 .f32) :
    rowsGet k (rowsPut k s v) = v := by
  funext y
  have h0 : (y (0 : Fin 2)).val < 1000 := (y (0 : Fin 2)).isLt
  unfold rowsGet rowsPut
  have e : ((1000 * k + (y (0 : Fin 2)).val) % 10000) / 1000 = k := by omega
  rw [if_pos e]
  congr 1
  funext a
  match a with
  | ⟨0, _⟩ => exact Fin.ext (show ((1000 * k + (y (0 : Fin 2)).val) % 10000) % 1000 = (y (0 : Fin 2)).val by omega)
  | ⟨1, _⟩ => rfl

/-- Storing one block leaves the others. -/
theorem rowsGet_put_of_ne {F : FTy → Type} {k j : ℕ} (hk : k < 10) (h : k ≠ j) (s : Vec F S10000x512 .f32) (v : Vec F S1000x512 .f32) :
    rowsGet k (rowsPut j s v) = rowsGet k s := by
  funext y
  have h0 : (y (0 : Fin 2)).val < 1000 := (y (0 : Fin 2)).isLt
  unfold rowsGet rowsPut
  have e : ((1000 * k + (y (0 : Fin 2)).val) % 10000) / 1000 = k := by omega
  exact if_neg (fun h' => h (e.symm.trans h'))

/-- Rows read through a rectangle at row `1000 k`. -/
theorem ld_rows {F : FTy → Type} {k : ℕ} (hk : k < 10) (s : Vec F S10000x512 .f32) (off : Fin 2 → ℕ) (inb) (ho : off = ![1000 * k, 0]) :
    View.ld s (Rect.unit (s := S10000x512) off S1000x512.size inb) = rowsGet k s := by
  subst ho
  funext y
  have h0 : (y (0 : Fin 2)).val < 1000 := (y (0 : Fin 2)).isLt
  refine View.ld_unit_apply_of (S := S10000x512) s _ _ _ y _ fun a => ?_
  match a with
  | ⟨0, _⟩ => exact (show (1000 * k + (y (0 : Fin 2)).val) % 10000 = 1000 * k + (y (0 : Fin 2)).val by omega)
  | ⟨1, _⟩ => exact (show (y (1 : Fin 2)).val = 0 + (y (1 : Fin 2)).val by omega)

/-- One thousand rows written at row `1000 k` over known contents. -/
theorem read_rows {F : FTy → Type} {k : ℕ} (M : Memref sig .tc .vmem S10000x512 .f32) (hM : M.IsWhole)
    (s : Vec F S10000x512 .f32) (off : Fin 2 → ℕ) (inb) (ho : off = ![1000 * k, 0]) (v : Vec F S1000x512 .f32) :
    View.read (Elt F) M.view (M.view.writes (Elt F) (hM.unread s) [⟨Rect.unit (s := S10000x512) off S1000x512.size inb, v⟩]) = rowsPut k s v := by
  funext y
  have h0 : (y (0 : Fin 2)).val < 10000 := (y (0 : Fin 2)).isLt
  unfold rowsPut
  by_cases h : (y (0 : Fin 2)).val / 1000 = k
  · rw [if_pos h]
    exact View.read_writes_cons_rows_of_mem (d := ![10000, 512]) M.view (hM.unread s) inb v [] y _ ho
      (show (y (0 : Fin 2)).val = 1000 * k + (y (0 : Fin 2)).val % 1000 by omega) rfl
  · rw [if_neg h]
    exact (View.read_writes_cons_rows_of_not_mem (d := ![10000, 512]) (W := 1000) M.view (hM.unread s) inb v [] y ho rfl (by omega)).trans
      (congrFun (hM.read_unread s) y)

/-- A whole store over anything. -/
theorem read_whole {F : FTy → Type} [FloatOps F] {S : Shape} (M : Memref sig .tc .vmem S .f32) (f : M.view.ty.Contents (Elt F)) {off : Fin S.rank → ℕ} (ho : off = fun _ => 0)
    (inb) (v : Vec F S .f32) (L : List (View.Piece (Elt F) S .f32)) :
    View.read (Elt F) M.view (M.view.writes (Elt F) f (⟨Rect.unit (s := S) off S.size inb, v⟩ :: L)) = v := by
  subst ho
  funext y
  exact View.read_writes_cons_unit_of_mem M.view f inb v L y y rfl fun a => (Nat.zero_add _).symm

/-- The row of sums (row 0) and the row of sums of squares (row 1) of a statistics array. -/
abbrev stRow0 {F : FTy → Type} (t : Vec F S8x512 .f32) : Vec F S1x512 .f32 := View.ld t (Rect.unit (s := S8x512) ![0, 0] S1x512.size inb_S8x512_S1x512_0_0)
/-- Row 1 of the sums: the sums of squares. -/
abbrev stRow1 {F : FTy → Type} (t : Vec F S8x512 .f32) : Vec F S1x512 .f32 := View.ld t (Rect.unit (s := S8x512) ![1, 0] S1x512.size inb_S8x512_S1x512_1_0)

/-- The third phase's store as a function of the values it loads, through the payloads of the kernel in its own order. -/
def outOf (v16 : Vec F S1x512 .f32) (v17 : Vec F S1x512 .f32) (v24 : Vec F S1x512 .f32) (v30 : Vec F S1x512 .f32) (v35 : Vec F S1000x512 .f32) (v42 : Vec F S128x512 .f32) (v44 : Vec F S1x128 .f32) (v58 : Vec F S32x512 .f32) (v82 : Vec F S1x512x32 .f32) (v104 : Vec F S1x512x32 .f32) (v126 : Vec F S1x512x32 .f32) (v148 : Vec F S1x512x32 .f32) (v170 : Vec F S1x512x32 .f32) (v192 : Vec F S1x512x32 .f32) (v214 : Vec F S1x512x32 .f32) (v236 : Vec F S1x512x32 .f32) (v248 : Vec F S128x32 .f32) (v272 : Vec F S1x32x128 .f32) (v294 : Vec F S1x32x128 .f32) (v316 : Vec F S1x32x128 .f32) (v338 : Vec F S1x32x128 .f32) (v360 : Vec F S1x32x128 .f32) (v382 : Vec F S1x32x128 .f32) (v404 : Vec F S1x32x128 .f32) (v426 : Vec F S1x32x128 .f32) (v439 : Vec F S16x256 .f32) (v463 : Vec F S1x256x16 .f32) (v485 : Vec F S1x256x16 .f32) (v507 : Vec F S1x256x16 .f32) (v529 : Vec F S1x256x16 .f32) (v551 : Vec F S1x256x16 .f32) (v573 : Vec F S1x256x16 .f32) (v595 : Vec F S1x256x16 .f32) (v617 : Vec F S1x256x16 .f32) (v629 : Vec F S10x16 .f32) (v653 : Vec F S1x16x10 .f32) (v675 : Vec F S1x16x10 .f32) (v697 : Vec F S1x16x10 .f32) (v719 : Vec F S1x16x10 .f32) (v741 : Vec F S1x16x10 .f32) (v763 : Vec F S1x16x10 .f32) (v785 : Vec F S1x16x10 .f32) (v807 : Vec F S1x16x10 .f32) : Vec F S1000x10 .f32 :=
  let v41 := k0_pay10 v16 v17 v24 v30 v35
  let v49 := k0_pay11 v16 v17 v24 v30 v35 v42 v44
  let v54 := k0_pay12 v16 v17 v24 v30 v35
  let v63 := k0_pay13 v41
  let v85 := k0_pay14 v41 v54 v58 v82
  let v92 := k0_pay16 v41
  let v94 := k0_pay17 v41
  let v129 := k0_pay18 v63 v85 v92 v94 v104 v126
  let v132 := k0_pay19 v63
  let v134 := k0_pay20 v63
  let v135 := k0_pay21 (F := F)
  let v173 := k0_pay22 v63 v129 v132 v134 v135 v148 v170
  let v176 := k0_pay23 v63
  let v217 := k0_pay24 v63 v173 v176 (Scalar.ofBits .f32 0x40000000#32) v192 v214
  let v249 := k0_pay26 v63 v217 (Scalar.ofBits .f32 0x41100000#32) v236 v248
  let v253 := k0_pay27 v63 v217 (Scalar.ofBits .f32 0x41100000#32) v236
  let v256 := k0_pay28 v63 v217 (Scalar.ofBits .f32 0x41100000#32) v236
  let v258 := k0_pay29 v63 v217 (Scalar.ofBits .f32 0x41100000#32) v236
  let v297 := k0_pay30 v249 v253 v256 v258 v272 v294
  let v299 := k0_pay31 v253
  let v319 := k0_pay32 v297 v299 v316
  let v340 := k0_pay33 v253 v338
  let v363 := k0_pay34 v253 v319 v340 v360
  let v381 := k0_pay35 v253
  let v407 := k0_pay36 v253 v363 v381 v382 v404
  let v420 := k0_pay38 v253
  let v424 := k0_pay39 v253
  let v440 := k0_pay41 v49 v407 v420 v424 v426 v439
  let v444 := k0_pay42 v49 v407 v420 v424 v426
  let v462 := k0_pay43 v49 v407 v420 v424 v426
  let v488 := k0_pay44 v440 v444 v462 v463 v485
  let v506 := k0_pay45 v444
  let v532 := k0_pay46 v444 v488 v506 v507 v529
  let v545 := k0_pay48 v444
  let v547 := k0_pay49 v444
  let v576 := k0_pay50 v444 v532 v545 v547 v551 v573
  let v583 := k0_pay52 v444
  let v587 := k0_pay53 v444
  let v620 := k0_pay54 v444 v576 v583 v587 v595 v617
  let v628 := k0_pay55 v444 v576 v583 v587 v595 v617
  let v634 := k0_pay56 v620
  let v656 := k0_pay57 v620 v628 v629 v653
  let v667 := k0_pay59 v620
  let v669 := k0_pay60 v620
  let v700 := k0_pay61 v634 v656 v667 v669 v675 v697
  let v707 := k0_pay63 v634
  let v709 := k0_pay64 v634
  let v744 := k0_pay65 v634 v700 v707 v709 (Scalar.ofBits .f32 0x00000000#32) v719 v741
  let v747 := k0_pay66 v634
  let v751 := k0_pay67 v634
  let v788 := k0_pay68 v634 v744 v747 v751 v763 v785
  let v791 := k0_pay69 v634
  let v792 := k0_pay70 (F := F)
  k0_pay7 v788 v791 v792 v807

/-- What the third phase stores into the output block: the second layer normalised and clipped at zero, its linear
    image, and the four spline layers. -/
def outPay (h : Vec F S1000x512 .f32) (x24 : Vec F S8x512 .f32) (x8 : Vec F S1x512 .f32) (x9 : Vec F S1x512 .f32) (x10 : Vec F S128x512 .f32) (x11 : Vec F S1x128 .f32) (x12 : Vec F S32x512 .f32) (x13 : Vec F S8x512x32 .f32) (x14 : Vec F S128x32 .f32) (x15 : Vec F S8x32x128 .f32) (x16 : Vec F S16x256 .f32) (x17 : Vec F S8x256x16 .f32) (x18 : Vec F S10x16 .f32) (x19 : Vec F S8x16x10 .f32) : Vec F S1000x10 .f32 :=
  outOf (View.ld x24 (Rect.unit (s := S8x512) ![0, 0] S1x512.size inb_S8x512_S1x512_0_0)) (View.ld x24 (Rect.unit (s := S8x512) ![1, 0] S1x512.size inb_S8x512_S1x512_1_0)) (x8) (x9) (h) (x10) (x11) (x12) (View.ld x13 (Rect.unit (s := S8x512x32) ![0, 0, 0] S1x512x32.size inb_S8x512x32_S1x512x32_0_0_0)) (View.ld x13 (Rect.unit (s := S8x512x32) ![1, 0, 0] S1x512x32.size inb_S8x512x32_S1x512x32_1_0_0)) (View.ld x13 (Rect.unit (s := S8x512x32) ![2, 0, 0] S1x512x32.size inb_S8x512x32_S1x512x32_2_0_0)) (View.ld x13 (Rect.unit (s := S8x512x32) ![3, 0, 0] S1x512x32.size inb_S8x512x32_S1x512x32_3_0_0)) (View.ld x13 (Rect.unit (s := S8x512x32) ![4, 0, 0] S1x512x32.size inb_S8x512x32_S1x512x32_4_0_0)) (View.ld x13 (Rect.unit (s := S8x512x32) ![5, 0, 0] S1x512x32.size inb_S8x512x32_S1x512x32_5_0_0)) (View.ld x13 (Rect.unit (s := S8x512x32) ![6, 0, 0] S1x512x32.size inb_S8x512x32_S1x512x32_6_0_0)) (View.ld x13 (Rect.unit (s := S8x512x32) ![7, 0, 0] S1x512x32.size inb_S8x512x32_S1x512x32_7_0_0)) (x14) (View.ld x15 (Rect.unit (s := S8x32x128) ![0, 0, 0] S1x32x128.size inb_S8x32x128_S1x32x128_0_0_0)) (View.ld x15 (Rect.unit (s := S8x32x128) ![1, 0, 0] S1x32x128.size inb_S8x32x128_S1x32x128_1_0_0)) (View.ld x15 (Rect.unit (s := S8x32x128) ![2, 0, 0] S1x32x128.size inb_S8x32x128_S1x32x128_2_0_0)) (View.ld x15 (Rect.unit (s := S8x32x128) ![3, 0, 0] S1x32x128.size inb_S8x32x128_S1x32x128_3_0_0)) (View.ld x15 (Rect.unit (s := S8x32x128) ![4, 0, 0] S1x32x128.size inb_S8x32x128_S1x32x128_4_0_0)) (View.ld x15 (Rect.unit (s := S8x32x128) ![5, 0, 0] S1x32x128.size inb_S8x32x128_S1x32x128_5_0_0)) (View.ld x15 (Rect.unit (s := S8x32x128) ![6, 0, 0] S1x32x128.size inb_S8x32x128_S1x32x128_6_0_0)) (View.ld x15 (Rect.unit (s := S8x32x128) ![7, 0, 0] S1x32x128.size inb_S8x32x128_S1x32x128_7_0_0)) (x16) (View.ld x17 (Rect.unit (s := S8x256x16) ![0, 0, 0] S1x256x16.size inb_S8x256x16_S1x256x16_0_0_0)) (View.ld x17 (Rect.unit (s := S8x256x16) ![1, 0, 0] S1x256x16.size inb_S8x256x16_S1x256x16_1_0_0)) (View.ld x17 (Rect.unit (s := S8x256x16) ![2, 0, 0] S1x256x16.size inb_S8x256x16_S1x256x16_2_0_0)) (View.ld x17 (Rect.unit (s := S8x256x16) ![3, 0, 0] S1x256x16.size inb_S8x256x16_S1x256x16_3_0_0)) (View.ld x17 (Rect.unit (s := S8x256x16) ![4, 0, 0] S1x256x16.size inb_S8x256x16_S1x256x16_4_0_0)) (View.ld x17 (Rect.unit (s := S8x256x16) ![5, 0, 0] S1x256x16.size inb_S8x256x16_S1x256x16_5_0_0)) (View.ld x17 (Rect.unit (s := S8x256x16) ![6, 0, 0] S1x256x16.size inb_S8x256x16_S1x256x16_6_0_0)) (View.ld x17 (Rect.unit (s := S8x256x16) ![7, 0, 0] S1x256x16.size inb_S8x256x16_S1x256x16_7_0_0)) (x18) (View.ld x19 (Rect.unit (s := S8x16x10) ![0, 0, 0] S1x16x10.size inb_S8x16x10_S1x16x10_0_0_0)) (View.ld x19 (Rect.unit (s := S8x16x10) ![1, 0, 0] S1x16x10.size inb_S8x16x10_S1x16x10_1_0_0)) (View.ld x19 (Rect.unit (s := S8x16x10) ![2, 0, 0] S1x16x10.size inb_S8x16x10_S1x16x10_2_0_0)) (View.ld x19 (Rect.unit (s := S8x16x10) ![3, 0, 0] S1x16x10.size inb_S8x16x10_S1x16x10_3_0_0)) (View.ld x19 (Rect.unit (s := S8x16x10) ![4, 0, 0] S1x16x10.size inb_S8x16x10_S1x16x10_4_0_0)) (View.ld x19 (Rect.unit (s := S8x16x10) ![5, 0, 0] S1x16x10.size inb_S8x16x10_S1x16x10_5_0_0)) (View.ld x19 (Rect.unit (s := S8x16x10) ![6, 0, 0] S1x16x10.size inb_S8x16x10_S1x16x10_6_0_0)) (View.ld x19 (Rect.unit (s := S8x16x10) ![7, 0, 0] S1x16x10.size inb_S8x16x10_S1x16x10_7_0_0))

variable (arg1 : Memref sig .tc .vmem S1000x128 .f32) (harg1 : arg1.IsWhole)
variable (arg2 : Memref sig .tc .vmem S512x128 .f32) (harg2 : arg2.IsWhole)
variable (arg3 : Memref sig .tc .vmem S1x512 .f32) (harg3 : arg3.IsWhole)
variable (arg4 : Memref sig .tc .vmem S1x512 .f32) (harg4 : arg4.IsWhole)
variable (arg5 : Memref sig .tc .vmem S1x512 .f32) (harg5 : arg5.IsWhole)
variable (arg6 : Memref sig .tc .vmem S512x512 .f32) (harg6 : arg6.IsWhole)
variable (arg7 : Memref sig .tc .vmem S1x512 .f32) (harg7 : arg7.IsWhole)
variable (arg8 : Memref sig .tc .vmem S1x512 .f32) (harg8 : arg8.IsWhole)
variable (arg9 : Memref sig .tc .vmem S1x512 .f32) (harg9 : arg9.IsWhole)
variable (arg10 : Memref sig .tc .vmem S128x512 .f32) (harg10 : arg10.IsWhole)
variable (arg11 : Memref sig .tc .vmem S1x128 .f32) (harg11 : arg11.IsWhole)
variable (arg12 : Memref sig .tc .vmem S32x512 .f32) (harg12 : arg12.IsWhole)
variable (arg13 : Memref sig .tc .vmem S8x512x32 .f32) (harg13 : arg13.IsWhole)
variable (arg14 : Memref sig .tc .vmem S128x32 .f32) (harg14 : arg14.IsWhole)
variable (arg15 : Memref sig .tc .vmem S8x32x128 .f32) (harg15 : arg15.IsWhole)
variable (arg16 : Memref sig .tc .vmem S16x256 .f32) (harg16 : arg16.IsWhole)
variable (arg17 : Memref sig .tc .vmem S8x256x16 .f32) (harg17 : arg17.IsWhole)
variable (arg18 : Memref sig .tc .vmem S10x16 .f32) (harg18 : arg18.IsWhole)
variable (arg19 : Memref sig .tc .vmem S8x16x10 .f32) (harg19 : arg19.IsWhole)
variable (arg20 : Memref sig .tc .vmem S1000x10 .f32) (harg20 : arg20.IsWhole)
variable (arg21 : Memref sig .tc .vmem S10000x512 .f32) (harg21 : arg21.IsWhole)
variable (arg22 : Memref sig .tc .vmem S10000x512 .f32) (harg22 : arg22.IsWhole)
variable (arg23 : Memref sig .tc .vmem S8x512 .f32) (harg23 : arg23.IsWhole)
variable (arg24 : Memref sig .tc .vmem S8x512 .f32) (harg24 : arg24.IsWhole)

set_option maxHeartbeats 4000000 in
/-- The first grid point: both statistics arrays are zeroed, then the first block of the first layer is stored and its sums are added. -/
theorem run_first (c : Dev nD) (i : grid0.Coords) (hc0 : condZ i) (hc1 : k0_cond2 i = 1#1) (hc2 : ¬k0_cond3 i = 1#1) (hc3 : ¬k0_cond4 i = 1#1)
    {k : ℕ} (hk : k < 10) (ho : k0_off1 i = ![1000 * k, 0])
    (x1 : Vec F S1000x128 .f32) (x2 : Vec F S512x128 .f32) (x3 : Vec F S1x512 .f32) (x21 : Vec F S10000x512 .f32) (x23 : Vec F S8x512 .f32) (x24 : Vec F S8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg21 fullShare x21 ∗ owns (c : Thread nD τ) arg23 fullShare x23 ∗ owns (c : Thread nD τ) arg24 fullShare x24
        ∗ (iprop(owns (c : Thread nD τ) arg1 fullShare x1 ∗ owns (c : Thread nD τ) arg2 fullShare x2 ∗ owns (c : Thread nD τ) arg3 fullShare x3 ∗ owns (c : Thread nD τ) arg21 fullShare (rowsPut k x21 (k0_pay4 x1 x2 x3)) ∗ owns (c : Thread nD τ) arg23 fullShare (k0_pay5 x1 x2 x3 (k0_pay1 (F := F))) ∗ owns (c : Thread nD τ) arg24 fullShare (k0_pay2 (F := F))) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_eq_skeleton]; unfold cc0__fused_skel
  unfold owns
  iintro ⟨⟨%f1, %hf1, H1⟩, ⟨%f2, %hf2, H2⟩, ⟨%f3, %hf3, H3⟩, ⟨%f21, %hf21, H21⟩, ⟨%f23, %hf23, H23⟩, ⟨%f24, %hf24, H24⟩, Hk⟩
  obtain rfl := harg1.eq_unread hf1; obtain rfl := harg2.eq_unread hf2; obtain rfl := harg3.eq_unread hf3; obtain rfl := harg21.eq_unread hf21; obtain rfl := harg23.eq_unread hf23; obtain rfl := harg24.eq_unread hf24
  sl_exec (disch := first | sl_exact hc0 | sl_exact hc1 | sl_exact hc2 | sl_exact hc3)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H21]
  · iexists _; isplitr; swap; · iexact H21
    ipureintro
    first | simp only [View.readAt_eq_ld, Memref.IsWhole.read_unread, View.ld_unit_zero (S := S1000x128) hz2, View.ld_unit_zero (S := S512x128) hz2, View.ld_unit_zero (S := S1x512) hz2, View.ld_unit_zero (S := S8x512) hz2, View.ld_unit_zero (S := S512x512) hz2, View.ld_unit_zero (S := S128x512) hz2, View.ld_unit_zero (S := S1x128) hz2, View.ld_unit_zero (S := S32x512) hz2, View.ld_unit_zero (S := S128x32) hz2, View.ld_unit_zero (S := S16x256) hz2, View.ld_unit_zero (S := S10x16) hz2] | skip
    exact read_rows arg21 harg21 _ _ _ ho _
  isplitl [H23]
  · iexists _; isplitr; swap; · iexact H23
    ipureintro
    sl_unfold_words
    rw [read_whole (F := F) _ _ hz2]
    first | simp only [View.readAt_eq_ld, Memref.IsWhole.read_unread, View.ld_unit_zero (S := S1000x128) hz2, View.ld_unit_zero (S := S512x128) hz2, View.ld_unit_zero (S := S1x512) hz2, View.ld_unit_zero (S := S8x512) hz2, View.ld_unit_zero (S := S512x512) hz2, View.ld_unit_zero (S := S128x512) hz2, View.ld_unit_zero (S := S1x128) hz2, View.ld_unit_zero (S := S32x512) hz2, View.ld_unit_zero (S := S128x32) hz2, View.ld_unit_zero (S := S16x256) hz2, View.ld_unit_zero (S := S10x16) hz2] | skip
    rw [View.readCov_unit_zero (S := S8x512) _ hz2]
  · iexists _; isplitr; swap; · iexact H24
    ipureintro
    exact read_whole (F := F) _ _ hz2 _ _ _

set_option maxHeartbeats 4000000 in
/-- A later point of the first phase: one block of the first layer is stored and its sums are added. -/
theorem run_one (c : Dev nD) (i : grid0.Coords) (hc0 : ¬condZ i) (hc1 : k0_cond2 i = 1#1) (hc2 : ¬k0_cond3 i = 1#1) (hc3 : ¬k0_cond4 i = 1#1)
    {k : ℕ} (hk : k < 10) (ho : k0_off1 i = ![1000 * k, 0])
    (x1 : Vec F S1000x128 .f32) (x2 : Vec F S512x128 .f32) (x3 : Vec F S1x512 .f32) (x21 : Vec F S10000x512 .f32) (x23 : Vec F S8x512 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg21 fullShare x21 ∗ owns (c : Thread nD τ) arg23 fullShare x23
        ∗ (iprop(owns (c : Thread nD τ) arg1 fullShare x1 ∗ owns (c : Thread nD τ) arg2 fullShare x2 ∗ owns (c : Thread nD τ) arg3 fullShare x3 ∗ owns (c : Thread nD τ) arg21 fullShare (rowsPut k x21 (k0_pay4 x1 x2 x3)) ∗ owns (c : Thread nD τ) arg23 fullShare (k0_pay5 x1 x2 x3 x23)) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_eq_skeleton]; unfold cc0__fused_skel
  unfold owns
  iintro ⟨⟨%f1, %hf1, H1⟩, ⟨%f2, %hf2, H2⟩, ⟨%f3, %hf3, H3⟩, ⟨%f21, %hf21, H21⟩, ⟨%f23, %hf23, H23⟩, Hk⟩
  obtain rfl := harg1.eq_unread hf1; obtain rfl := harg2.eq_unread hf2; obtain rfl := harg3.eq_unread hf3; obtain rfl := harg21.eq_unread hf21; obtain rfl := harg23.eq_unread hf23
  sl_exec (disch := first | sl_exact hc0 | sl_exact hc1 | sl_exact hc2 | sl_exact hc3)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H21]
  · iexists _; isplitr; swap; · iexact H21
    ipureintro
    first | simp only [View.readAt_eq_ld, Memref.IsWhole.read_unread, View.ld_unit_zero (S := S1000x128) hz2, View.ld_unit_zero (S := S512x128) hz2, View.ld_unit_zero (S := S1x512) hz2, View.ld_unit_zero (S := S8x512) hz2, View.ld_unit_zero (S := S512x512) hz2, View.ld_unit_zero (S := S128x512) hz2, View.ld_unit_zero (S := S1x128) hz2, View.ld_unit_zero (S := S32x512) hz2, View.ld_unit_zero (S := S128x32) hz2, View.ld_unit_zero (S := S16x256) hz2, View.ld_unit_zero (S := S10x16) hz2] | skip
    exact read_rows arg21 harg21 _ _ _ ho _
  · iexists _; isplitr; swap; · iexact H23
    ipureintro
    rw [read_whole (F := F) _ _ hz2]
    first | simp only [View.readAt_eq_ld, Memref.IsWhole.read_unread, View.ld_unit_zero (S := S1000x128) hz2, View.ld_unit_zero (S := S512x128) hz2, View.ld_unit_zero (S := S1x512) hz2, View.ld_unit_zero (S := S8x512) hz2, View.ld_unit_zero (S := S512x512) hz2, View.ld_unit_zero (S := S128x512) hz2, View.ld_unit_zero (S := S1x128) hz2, View.ld_unit_zero (S := S32x512) hz2, View.ld_unit_zero (S := S128x32) hz2, View.ld_unit_zero (S := S16x256) hz2, View.ld_unit_zero (S := S10x16) hz2] | skip

set_option maxHeartbeats 4000000 in
/-- A point of the second phase: one block of the second layer is stored and its sums are added. -/
theorem run_two (c : Dev nD) (i : grid0.Coords) (hc0 : ¬condZ i) (hc1 : ¬k0_cond2 i = 1#1) (hc2 : k0_cond3 i = 1#1) (hc3 : ¬k0_cond4 i = 1#1)
    {k : ℕ} (hk : k < 10) (ho : k0_off2 i = ![1000 * k, 0])
    (x4 : Vec F S1x512 .f32) (x5 : Vec F S1x512 .f32) (x6 : Vec F S512x512 .f32) (x7 : Vec F S1x512 .f32) (x21 : Vec F S10000x512 .f32) (x22 : Vec F S10000x512 .f32) (x23 : Vec F S8x512 .f32) (x24 : Vec F S8x512 .f32) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg21 fullShare x21 ∗ owns (c : Thread nD τ) arg22 fullShare x22 ∗ owns (c : Thread nD τ) arg23 fullShare x23 ∗ owns (c : Thread nD τ) arg24 fullShare x24
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg21 fullShare x21 ∗ owns (c : Thread nD τ) arg22 fullShare (rowsPut k x22 (k0_pay9 (stRow0 x23) (stRow1 x23) x4 x5 (rowsGet k x21) x6 x7)) ∗ owns (c : Thread nD τ) arg23 fullShare x23 ∗ owns (c : Thread nD τ) arg24 fullShare (k0_pay6 (k0_pay8 (stRow0 x23) (stRow1 x23) x4 x5 (rowsGet k x21) x6 x7) x24)) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_eq_skeleton]; unfold cc0__fused_skel
  unfold owns
  iintro ⟨⟨%f4, %hf4, H4⟩, ⟨%f5, %hf5, H5⟩, ⟨%f6, %hf6, H6⟩, ⟨%f7, %hf7, H7⟩, ⟨%f21, %hf21, H21⟩, ⟨%f22, %hf22, H22⟩, ⟨%f23, %hf23, H23⟩, ⟨%f24, %hf24, H24⟩, Hk⟩
  obtain rfl := harg4.eq_unread hf4; obtain rfl := harg5.eq_unread hf5; obtain rfl := harg6.eq_unread hf6; obtain rfl := harg7.eq_unread hf7; obtain rfl := harg21.eq_unread hf21; obtain rfl := harg22.eq_unread hf22; obtain rfl := harg23.eq_unread hf23; obtain rfl := harg24.eq_unread hf24
  sl_exec (disch := first | sl_exact hc0 | sl_exact hc1 | sl_exact hc2 | sl_exact hc3)
  sl_step
  iapply Hk
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H21]
  · iexists _; isplitr; swap; · iexact H21
    ipureintro
    exact harg21.read_unread _
  isplitl [H22]
  · iexists _; isplitr; swap; · iexact H22
    ipureintro
    simp only [View.readAt_eq_ld, Memref.IsWhole.read_unread, View.ld_unit_zero (S := S1000x128) hz2, View.ld_unit_zero (S := S512x128) hz2, View.ld_unit_zero (S := S1x512) hz2, View.ld_unit_zero (S := S8x512) hz2, View.ld_unit_zero (S := S512x512) hz2, View.ld_unit_zero (S := S128x512) hz2, View.ld_unit_zero (S := S1x128) hz2, View.ld_unit_zero (S := S32x512) hz2, View.ld_unit_zero (S := S128x32) hz2, View.ld_unit_zero (S := S16x256) hz2, View.ld_unit_zero (S := S10x16) hz2]
    rw [ld_rows hk _ _ _ ho]
    exact read_rows arg22 harg22 _ _ _ ho _
  isplitl [H23]
  · iexists _; isplitr; swap; · iexact H23
    ipureintro
    exact harg23.read_unread _
  · iexists _; isplitr; swap; · iexact H24
    ipureintro
    sl_unfold_words
    rw [read_whole (F := F) _ _ hz2]
    first | simp only [View.readAt_eq_ld, Memref.IsWhole.read_unread, View.ld_unit_zero (S := S1000x128) hz2, View.ld_unit_zero (S := S512x128) hz2, View.ld_unit_zero (S := S1x512) hz2, View.ld_unit_zero (S := S8x512) hz2, View.ld_unit_zero (S := S512x512) hz2, View.ld_unit_zero (S := S128x512) hz2, View.ld_unit_zero (S := S1x128) hz2, View.ld_unit_zero (S := S32x512) hz2, View.ld_unit_zero (S := S128x32) hz2, View.ld_unit_zero (S := S16x256) hz2, View.ld_unit_zero (S := S10x16) hz2] | skip
    exact congrArg (fun z => k0_pay6 (k0_pay8 (stRow0 x23) (stRow1 x23) x4 x5 z x6 x7) x24) (ld_rows hk x21 _ (k0_off2_inb i hc2) ho)

set_option maxHeartbeats 4000000 in
/-- A point of the third phase: the output block is stored. -/
theorem run_three (c : Dev nD) (i : grid0.Coords) (hc0 : ¬condZ i) (hc1 : ¬k0_cond2 i = 1#1) (hc2 : ¬k0_cond3 i = 1#1) (hc3 : k0_cond4 i = 1#1)
    {k : ℕ} (hk : k < 10) (ho : k0_off3 i = ![1000 * k, 0])
    (x8 : Vec F S1x512 .f32) (x9 : Vec F S1x512 .f32) (x10 : Vec F S128x512 .f32) (x11 : Vec F S1x128 .f32) (x12 : Vec F S32x512 .f32) (x13 : Vec F S8x512x32 .f32) (x14 : Vec F S128x32 .f32) (x15 : Vec F S8x32x128 .f32) (x16 : Vec F S16x256 .f32) (x17 : Vec F S8x256x16 .f32) (x18 : Vec F S10x16 .f32) (x19 : Vec F S8x16x10 .f32) (x20 : Vec F S1000x10 .f32) (x22 : Vec F S10000x512 .f32) (x24 : Vec F S8x512 .f32) (E : Set ℕ) (K : PUnit → sProp 𝕄) :
    iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg22 fullShare x22 ∗ owns (c : Thread nD τ) arg24 fullShare x24
        ∗ (iprop(owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (outPay (rowsGet k x22) x24 x8 x9 x10 x11 x12 x13 x14 x15 x16 x17 x18 x19) ∗ owns (c : Thread nD τ) arg22 fullShare x22 ∗ owns (c : Thread nD τ) arg24 fullShare x24) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_eq_skeleton]; unfold cc0__fused_skel
  unfold owns
  iintro ⟨⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f22, %hf22, H22⟩, ⟨%f24, %hf24, H24⟩, Hk⟩
  obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg22.eq_unread hf22; obtain rfl := harg24.eq_unread hf24
  sl_exec (disch := first | sl_exact hc0 | sl_exact hc1 | sl_exact hc2 | sl_exact hc3)
  sl_step
  iapply Hk
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    exact harg12.read_unread _
  isplitl [H13]
  · iexists _; isplitr; swap; · iexact H13
    ipureintro
    exact harg13.read_unread _
  isplitl [H14]
  · iexists _; isplitr; swap; · iexact H14
    ipureintro
    exact harg14.read_unread _
  isplitl [H15]
  · iexists _; isplitr; swap; · iexact H15
    ipureintro
    exact harg15.read_unread _
  isplitl [H16]
  · iexists _; isplitr; swap; · iexact H16
    ipureintro
    exact harg16.read_unread _
  isplitl [H17]
  · iexists _; isplitr; swap; · iexact H17
    ipureintro
    exact harg17.read_unread _
  isplitl [H18]
  · iexists _; isplitr; swap; · iexact H18
    ipureintro
    exact harg18.read_unread _
  isplitl [H19]
  · iexists _; isplitr; swap; · iexact H19
    ipureintro
    exact harg19.read_unread _
  isplitl [H20]
  · iexists _; isplitr; swap; · iexact H20
    ipureintro
    rw [read_whole (F := F) _ _ hz2]
    suffices hout : outOf (View.readAt (Elt F) arg24.view (Rect.unit (s := S8x512) ![0, 0] S1x512.size inb_S8x512_S1x512_0_0).toLoadRect (harg24.unread x24)) (View.readAt (Elt F) arg24.view (Rect.unit (s := S8x512) ![1, 0] S1x512.size inb_S8x512_S1x512_1_0).toLoadRect (harg24.unread x24)) (View.readAt (Elt F) arg8.view (Rect.unit (s := S1x512) ![0, 0] S1x512.size inb_S1x512_S1x512_0_0).toLoadRect (harg8.unread x8)) (View.readAt (Elt F) arg9.view (Rect.unit (s := S1x512) ![0, 0] S1x512.size inb_S1x512_S1x512_0_0).toLoadRect (harg9.unread x9)) (View.readAt (Elt F) arg22.view (Rect.unit (s := S10000x512) (k0_off3 i) S1000x512.size (k0_off3_inb i hc3)).toLoadRect (harg22.unread x22)) (View.readAt (Elt F) arg10.view (Rect.unit (s := S128x512) ![0, 0] S128x512.size inb_S128x512_S128x512_0_0).toLoadRect (harg10.unread x10)) (View.readAt (Elt F) arg11.view (Rect.unit (s := S1x128) ![0, 0] S1x128.size inb_S1x128_S1x128_0_0).toLoadRect (harg11.unread x11)) (View.readAt (Elt F) arg12.view (Rect.unit (s := S32x512) ![0, 0] S32x512.size inb_S32x512_S32x512_0_0).toLoadRect (harg12.unread x12)) (View.readAt (Elt F) arg13.view (Rect.unit (s := S8x512x32) ![0, 0, 0] S1x512x32.size inb_S8x512x32_S1x512x32_0_0_0).toLoadRect (harg13.unread x13)) (View.readAt (Elt F) arg13.view (Rect.unit (s := S8x512x32) ![1, 0, 0] S1x512x32.size inb_S8x512x32_S1x512x32_1_0_0).toLoadRect (harg13.unread x13)) (View.readAt (Elt F) arg13.view (Rect.unit (s := S8x512x32) ![2, 0, 0] S1x512x32.size inb_S8x512x32_S1x512x32_2_0_0).toLoadRect (harg13.unread x13)) (View.readAt (Elt F) arg13.view (Rect.unit (s := S8x512x32) ![3, 0, 0] S1x512x32.size inb_S8x512x32_S1x512x32_3_0_0).toLoadRect (harg13.unread x13)) (View.readAt (Elt F) arg13.view (Rect.unit (s := S8x512x32) ![4, 0, 0] S1x512x32.size inb_S8x512x32_S1x512x32_4_0_0).toLoadRect (harg13.unread x13)) (View.readAt (Elt F) arg13.view (Rect.unit (s := S8x512x32) ![5, 0, 0] S1x512x32.size inb_S8x512x32_S1x512x32_5_0_0).toLoadRect (harg13.unread x13)) (View.readAt (Elt F) arg13.view (Rect.unit (s := S8x512x32) ![6, 0, 0] S1x512x32.size inb_S8x512x32_S1x512x32_6_0_0).toLoadRect (harg13.unread x13)) (View.readAt (Elt F) arg13.view (Rect.unit (s := S8x512x32) ![7, 0, 0] S1x512x32.size inb_S8x512x32_S1x512x32_7_0_0).toLoadRect (harg13.unread x13)) (View.readAt (Elt F) arg14.view (Rect.unit (s := S128x32) ![0, 0] S128x32.size inb_S128x32_S128x32_0_0).toLoadRect (harg14.unread x14)) (View.readAt (Elt F) arg15.view (Rect.unit (s := S8x32x128) ![0, 0, 0] S1x32x128.size inb_S8x32x128_S1x32x128_0_0_0).toLoadRect (harg15.unread x15)) (View.readAt (Elt F) arg15.view (Rect.unit (s := S8x32x128) ![1, 0, 0] S1x32x128.size inb_S8x32x128_S1x32x128_1_0_0).toLoadRect (harg15.unread x15)) (View.readAt (Elt F) arg15.view (Rect.unit (s := S8x32x128) ![2, 0, 0] S1x32x128.size inb_S8x32x128_S1x32x128_2_0_0).toLoadRect (harg15.unread x15)) (View.readAt (Elt F) arg15.view (Rect.unit (s := S8x32x128) ![3, 0, 0] S1x32x128.size inb_S8x32x128_S1x32x128_3_0_0).toLoadRect (harg15.unread x15)) (View.readAt (Elt F) arg15.view (Rect.unit (s := S8x32x128) ![4, 0, 0] S1x32x128.size inb_S8x32x128_S1x32x128_4_0_0).toLoadRect (harg15.unread x15)) (View.readAt (Elt F) arg15.view (Rect.unit (s := S8x32x128) ![5, 0, 0] S1x32x128.size inb_S8x32x128_S1x32x128_5_0_0).toLoadRect (harg15.unread x15)) (View.readAt (Elt F) arg15.view (Rect.unit (s := S8x32x128) ![6, 0, 0] S1x32x128.size inb_S8x32x128_S1x32x128_6_0_0).toLoadRect (harg15.unread x15)) (View.readAt (Elt F) arg15.view (Rect.unit (s := S8x32x128) ![7, 0, 0] S1x32x128.size inb_S8x32x128_S1x32x128_7_0_0).toLoadRect (harg15.unread x15)) (View.readAt (Elt F) arg16.view (Rect.unit (s := S16x256) ![0, 0] S16x256.size inb_S16x256_S16x256_0_0).toLoadRect (harg16.unread x16)) (View.readAt (Elt F) arg17.view (Rect.unit (s := S8x256x16) ![0, 0, 0] S1x256x16.size inb_S8x256x16_S1x256x16_0_0_0).toLoadRect (harg17.unread x17)) (View.readAt (Elt F) arg17.view (Rect.unit (s := S8x256x16) ![1, 0, 0] S1x256x16.size inb_S8x256x16_S1x256x16_1_0_0).toLoadRect (harg17.unread x17)) (View.readAt (Elt F) arg17.view (Rect.unit (s := S8x256x16) ![2, 0, 0] S1x256x16.size inb_S8x256x16_S1x256x16_2_0_0).toLoadRect (harg17.unread x17)) (View.readAt (Elt F) arg17.view (Rect.unit (s := S8x256x16) ![3, 0, 0] S1x256x16.size inb_S8x256x16_S1x256x16_3_0_0).toLoadRect (harg17.unread x17)) (View.readAt (Elt F) arg17.view (Rect.unit (s := S8x256x16) ![4, 0, 0] S1x256x16.size inb_S8x256x16_S1x256x16_4_0_0).toLoadRect (harg17.unread x17)) (View.readAt (Elt F) arg17.view (Rect.unit (s := S8x256x16) ![5, 0, 0] S1x256x16.size inb_S8x256x16_S1x256x16_5_0_0).toLoadRect (harg17.unread x17)) (View.readAt (Elt F) arg17.view (Rect.unit (s := S8x256x16) ![6, 0, 0] S1x256x16.size inb_S8x256x16_S1x256x16_6_0_0).toLoadRect (harg17.unread x17)) (View.readAt (Elt F) arg17.view (Rect.unit (s := S8x256x16) ![7, 0, 0] S1x256x16.size inb_S8x256x16_S1x256x16_7_0_0).toLoadRect (harg17.unread x17)) (View.readAt (Elt F) arg18.view (Rect.unit (s := S10x16) ![0, 0] S10x16.size inb_S10x16_S10x16_0_0).toLoadRect (harg18.unread x18)) (View.readAt (Elt F) arg19.view (Rect.unit (s := S8x16x10) ![0, 0, 0] S1x16x10.size inb_S8x16x10_S1x16x10_0_0_0).toLoadRect (harg19.unread x19)) (View.readAt (Elt F) arg19.view (Rect.unit (s := S8x16x10) ![1, 0, 0] S1x16x10.size inb_S8x16x10_S1x16x10_1_0_0).toLoadRect (harg19.unread x19)) (View.readAt (Elt F) arg19.view (Rect.unit (s := S8x16x10) ![2, 0, 0] S1x16x10.size inb_S8x16x10_S1x16x10_2_0_0).toLoadRect (harg19.unread x19)) (View.readAt (Elt F) arg19.view (Rect.unit (s := S8x16x10) ![3, 0, 0] S1x16x10.size inb_S8x16x10_S1x16x10_3_0_0).toLoadRect (harg19.unread x19)) (View.readAt (Elt F) arg19.view (Rect.unit (s := S8x16x10) ![4, 0, 0] S1x16x10.size inb_S8x16x10_S1x16x10_4_0_0).toLoadRect (harg19.unread x19)) (View.readAt (Elt F) arg19.view (Rect.unit (s := S8x16x10) ![5, 0, 0] S1x16x10.size inb_S8x16x10_S1x16x10_5_0_0).toLoadRect (harg19.unread x19)) (View.readAt (Elt F) arg19.view (Rect.unit (s := S8x16x10) ![6, 0, 0] S1x16x10.size inb_S8x16x10_S1x16x10_6_0_0).toLoadRect (harg19.unread x19)) (View.readAt (Elt F) arg19.view (Rect.unit (s := S8x16x10) ![7, 0, 0] S1x16x10.size inb_S8x16x10_S1x16x10_7_0_0).toLoadRect (harg19.unread x19)) = outPay (rowsGet k x22) x24 x8 x9 x10 x11 x12 x13 x14 x15 x16 x17 x18 x19 by
      refine Eq.trans ?_ hout
      with_unfolding_all rfl
    simp only [View.readAt_eq_ld, Memref.IsWhole.read_unread, View.ld_unit_zero (S := S1000x128) hz2, View.ld_unit_zero (S := S512x128) hz2, View.ld_unit_zero (S := S1x512) hz2, View.ld_unit_zero (S := S8x512) hz2, View.ld_unit_zero (S := S512x512) hz2, View.ld_unit_zero (S := S128x512) hz2, View.ld_unit_zero (S := S1x128) hz2, View.ld_unit_zero (S := S32x512) hz2, View.ld_unit_zero (S := S128x32) hz2, View.ld_unit_zero (S := S16x256) hz2, View.ld_unit_zero (S := S10x16) hz2]
    rw [ld_rows hk _ _ _ ho]
    rfl
  isplitl [H22]
  · iexists _; isplitr; swap; · iexact H22
    ipureintro
    exact harg22.read_unread _
  · iexists _; isplitr; swap; · iexact H24
    ipureintro
    exact harg24.read_unread _

end Cert.KernelIdeal.Body

end
-- ==== Proof.IdealRun.lean ====
/- The run of the kernel's launch: what the four scratch arrays hold between two grid points, the body at every point,
   and from them the whole launch and the frame claim. -/
module

public import proofs.«01_k».proof.Proof.IdealBody
public import proofs.«01_k».proof.Proof.Gen.KernelIdeal.Frame
public import Idealize.ShloMosaic.Lib.Claim

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The points -/

theorem zero_iff : ∀ t : Fin cfg0.N, condZ (grid0.coords t) ↔ t.val = 0 := fun t => by
  have ht : t.val < 30 := Nat.lt_of_lt_of_eq t.isLt N_0
  have e0 : (grid0.coords t 0).val = t.val / 1 % 30 := Pipeline.Grid.coords_val t 0 (by decide) rfl
  have e : t.val = 0 ↔ t.val % 30 = 0 := by omega
  rw [e]
  simp only [condZ, e0]
  word_cmp

/-- The first phase is the first ten points. -/
theorem one_iff : ∀ t : Fin cfg0.N, k0_cond2 (grid0.coords t) = 1#1 ↔ t.val < 10 :=
  (by decide +kernel : ∀ t : Fin grid0.N, k0_cond2 (grid0.coords t) = 1#1 ↔ t.val < 10)

/-- The second phase is points 10 to 19. -/
theorem two_iff : ∀ t : Fin cfg0.N, k0_cond3 (grid0.coords t) = 1#1 ↔ (10 ≤ t.val ∧ t.val ≤ 19) :=
  (by decide +kernel : ∀ t : Fin grid0.N, k0_cond3 (grid0.coords t) = 1#1 ↔ (10 ≤ t.val ∧ t.val ≤ 19))

/-- The third phase is the points from 20 on. -/
theorem three_iff : ∀ t : Fin cfg0.N, k0_cond4 (grid0.coords t) = 1#1 ↔ 20 ≤ t.val :=
  (by decide +kernel : ∀ t : Fin grid0.N, k0_cond4 (grid0.coords t) = 1#1 ↔ 20 ≤ t.val)

/-- The row a point stores or loads at: one thousand times its number within its phase. -/
theorem off_one : ∀ t : Fin cfg0.N, k0_off1 (grid0.coords t) = ![1000 * (t.val % 10), 0] :=
  (by decide +kernel : ∀ t : Fin grid0.N, k0_off1 (grid0.coords t) = ![1000 * (t.val % 10), 0])
/-- The second phase stores at the same rows. -/
theorem off_two : ∀ t : Fin cfg0.N, k0_off2 (grid0.coords t) = ![1000 * (t.val % 10), 0] :=
  (by decide +kernel : ∀ t : Fin grid0.N, k0_off2 (grid0.coords t) = ![1000 * (t.val % 10), 0])
/-- The third phase loads at the same rows. -/
theorem off_three : ∀ t : Fin cfg0.N, k0_off3 (grid0.coords t) = ![1000 * (t.val % 10), 0] :=
  (by decide +kernel : ∀ t : Fin grid0.N, k0_off3 (grid0.coords t) = ![1000 * (t.val % 10), 0])

/-- The output window is idle and is not written back before the third phase, and live in it. -/
theorem out_idle : ∀ t : Fin cfg0.N, t.val < 20 → cfg0.idle 19 (grid0.coords t) = true :=
  (by decide +kernel : ∀ t : Fin grid0.N, t.val < 20 → cfg0.idle 19 (grid0.coords t) = true)
/-- The output is not written back before the third phase. -/
theorem out_stays : ∀ t : Fin cfg0.N, t.val < 20 → (cfg0.win 19).flush t = false :=
  (by decide +kernel : ∀ t : Fin cfg0.N, t.val < 20 → (cfg0.win 19).flush t = false)
/-- The output window is live in the third phase. -/
theorem out_live : ∀ t : Fin cfg0.N, 20 ≤ t.val → cfg0.idle 19 (grid0.coords t) = false :=
  (by decide +kernel : ∀ t : Fin grid0.N, 20 ≤ t.val → cfg0.idle 19 (grid0.coords t) = false)

/-- Point number `n`. -/
def pt (n : ℕ) : Fin cfg0.N := ⟨n % 30, Nat.lt_of_lt_of_eq (Nat.mod_lt n (by decide)) N_0.symm⟩

/-- The point whose number is `t`'s is `t`. -/
theorem pt_val (t : Fin cfg0.N) : pt t.val = t :=
  Fin.ext (Nat.mod_eq_of_lt (Nat.lt_of_lt_of_eq t.isLt N_0))

variable (m : (ℓ : Loc nD τ sig) → Buf (Elt F) ℓ) (ρ : Dev nD → PrngReg)

/-! ## What the scratch arrays hold -/

/-- Block `k` of the first layer. -/
def H1 (c : Dev nD) (k : ℕ) : Vec F S1000x512 .f32 :=
  k0_pay4 (iblk m c 0 (pt k)) (iblk m c 1 (pt k)) (iblk m c 2 (pt k))

/-- The first layer's sums after `n` blocks. -/
def ST1 (c : Dev nD) : ℕ → Vec F S8x512 .f32
  | 0 => k0_pay1
  | n + 1 => k0_pay5 (iblk m c 0 (pt n)) (iblk m c 1 (pt n)) (iblk m c 2 (pt n)) (ST1 c n)

/-- Block `k` of the second layer. -/
def H2 (c : Dev nD) (k : ℕ) : Vec F S1000x512 .f32 :=
  k0_pay9 (stRow0 (ST1 m c 10)) (stRow1 (ST1 m c 10)) (iblk m c 3 (pt (10 + k))) (iblk m c 4 (pt (10 + k))) (H1 m c k)
    (iblk m c 5 (pt (10 + k))) (iblk m c 6 (pt (10 + k)))

/-- The second layer's sums after `n` blocks. -/
def ST2 (c : Dev nD) : ℕ → Vec F S8x512 .f32
  | 0 => k0_pay2
  | n + 1 => k0_pay6 (k0_pay8 (stRow0 (ST1 m c 10)) (stRow1 (ST1 m c 10)) (iblk m c 3 (pt (10 + n))) (iblk m c 4 (pt (10 + n)))
      (H1 m c n) (iblk m c 5 (pt (10 + n))) (iblk m c 6 (pt (10 + n)))) (ST2 c n)

/-- The output block of point `t` of the third phase. -/
def OUT (c : Dev nD) (t : Fin cfg0.N) : Vec F S1000x10 .f32 :=
  outPay (H2 m c (t.val % 10)) (ST2 m c 10) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- What is known of the four scratch arrays before point `n`. -/
structure Inv (c : Dev nD) (n : ℕ) (s1 s2 : Vec F S10000x512 .f32) (t1 t2 : Vec F S8x512 .f32) : Prop where
  rows1 : ∀ k, k < 10 → k < n → rowsGet k s1 = H1 m c k
  rows2 : ∀ k, k < 10 → 10 + k < n → rowsGet k s2 = H2 m c k
  sums1 : 0 < n → t1 = ST1 m c (min n 10)
  sums2 : 0 < n → t2 = ST2 m c (min (n - 10) 10)

/-- Nothing is asked before the first point. -/
theorem inv_zero (c : Dev nD) (s1 s2 t1 t2) : Inv m c 0 s1 s2 t1 t2 :=
  ⟨fun _ _ h => absurd h (by omega), fun _ _ h => absurd h (by omega), fun h => absurd h (by omega), fun h => absurd h (by omega)⟩

/-- Storing block `n` keeps the blocks before it. -/
theorem rows_step (c : Dev nD) (n : ℕ) (hn : n < 10) (s1 : Vec F S10000x512 .f32)
    (h : ∀ k, k < 10 → k < n → rowsGet k s1 = H1 m c k) :
    ∀ k, k < 10 → k < n + 1 → rowsGet k (rowsPut n s1 (H1 m c n)) = H1 m c k := fun k hk hkn => by
  by_cases e : k = n
  · subst e; exact rowsGet_put_self hk _ _
  · rw [rowsGet_put_of_ne hk e]; exact h k hk (by omega)

/-- What is known after the first point. -/
theorem inv_first (c : Dev nD) (s1 s2 : Vec F S10000x512 .f32) :
    Inv m c 1 (rowsPut 0 s1 (H1 m c 0)) s2 (ST1 m c 1) (ST2 m c 0) :=
  ⟨rows_step m c 0 (by omega) s1 (fun _ _ h => absurd h (by omega)), fun _ _ h => absurd h (by omega), fun _ => rfl, fun _ => rfl⟩

/-- A point of the first phase adds one block and its sums. -/
theorem inv_one (c : Dev nD) (n : ℕ) (h0 : 0 < n) (hn : n < 10) (s1 s2 t1 t2) (h : Inv m c n s1 s2 t1 t2) :
    Inv m c (n + 1) (rowsPut n s1 (H1 m c n)) s2 (ST1 m c (n + 1)) t2 :=
  ⟨rows_step m c n hn s1 h.rows1, fun _ _ h => absurd h (by omega), fun _ => by rw [Nat.min_eq_left (by omega)],
    fun _ => by rw [h.sums2 h0, show min (n + 1 - 10) 10 = min (n - 10) 10 by omega]⟩

/-- A point of the second phase adds one block and its sums. -/
theorem inv_two (c : Dev nD) (k : ℕ) (hk : k < 10) (s1 s2 t1 t2) (h : Inv m c (10 + k) s1 s2 t1 t2) :
    Inv m c (10 + k + 1) s1 (rowsPut k s2 (H2 m c k)) t1 (ST2 m c (k + 1)) :=
  ⟨fun j hj _ => h.rows1 j hj (by omega), fun j hj hjn => by
      by_cases e : j = k
      · subst e; exact rowsGet_put_self hj _ _
      · rw [rowsGet_put_of_ne hj e]; exact h.rows2 j hj (by omega),
    fun _ => by rw [h.sums1 (by omega), show min (10 + k + 1) 10 = min (10 + k) 10 by omega],
    fun _ => by rw [show min (10 + k + 1 - 10) 10 = k + 1 by omega]⟩

/-- A point of the third phase changes nothing in scratch. -/
theorem inv_three (c : Dev nD) (n : ℕ) (hn : 20 ≤ n) (s1 s2 t1 t2) (h : Inv m c n s1 s2 t1 t2) : Inv m c (n + 1) s1 s2 t1 t2 :=
  ⟨fun j hj _ => h.rows1 j hj (by omega), fun j hj _ => h.rows2 j hj (by omega),
    fun _ => by rw [h.sums1 (by omega), show min (n + 1) 10 = min n 10 by omega],
    fun _ => by rw [h.sums2 (by omega), show min (n + 1 - 10) 10 = min (n - 10) 10 by omega]⟩

/-- The block computed at point `t` is block `t` of the first layer. -/
theorem H1_at (c : Dev nD) (t : Fin cfg0.N) : k0_pay4 (iblk m c 0 t) (iblk m c 1 t) (iblk m c 2 t) = H1 m c t.val := by
  unfold H1; rw [pt_val]

/-- The sums computed at point `t` are the next ones. -/
theorem ST1_at (c : Dev nD) (t : Fin cfg0.N) :
    k0_pay5 (iblk m c 0 t) (iblk m c 1 t) (iblk m c 2 t) (ST1 m c t.val) = ST1 m c (t.val + 1) := by
  rw [ST1, pt_val]

/-- The first phase's step, in the values that the body computes. -/
theorem inv_one_at (c : Dev nD) (t : Fin cfg0.N) (h0 : 0 < t.val) (hn : t.val < 10) (s1 s2 t1 t2) (h : Inv m c t.val s1 s2 t1 t2) :
    Inv m c (t.val + 1) (rowsPut t.val s1 (k0_pay4 (iblk m c 0 t) (iblk m c 1 t) (iblk m c 2 t))) s2
      (k0_pay5 (iblk m c 0 t) (iblk m c 1 t) (iblk m c 2 t) t1) t2 := by
  have e := h.sums1 h0
  rw [Nat.min_eq_left (by omega)] at e
  have h' := inv_one m c t.val h0 hn s1 s2 t1 t2 h
  rw [← ST1_at, ← H1_at, ← e] at h'
  exact h'

/-! ## The staging buffers and the scratch arrays as memrefs -/

abbrev mw0 (t : Fin cfg0.N) : Memref sig .tc .vmem S1000x128 .f32 := win0_0.stage (cfg0.slots t 0)
/-- Window 1's buffer at a point. -/
abbrev mw1 (t : Fin cfg0.N) : Memref sig .tc .vmem S512x128 .f32 := win0_1.stage (cfg0.slots t 1)
/-- Window 2's buffer at a point. -/
abbrev mw2 (t : Fin cfg0.N) : Memref sig .tc .vmem S1x512 .f32 := win0_2.stage (cfg0.slots t 2)
/-- Window 3's buffer at a point. -/
abbrev mw3 (t : Fin cfg0.N) : Memref sig .tc .vmem S1x512 .f32 := win0_3.stage (cfg0.slots t 3)
/-- Window 4's buffer at a point. -/
abbrev mw4 (t : Fin cfg0.N) : Memref sig .tc .vmem S1x512 .f32 := win0_4.stage (cfg0.slots t 4)
/-- Window 5's buffer at a point. -/
abbrev mw5 (t : Fin cfg0.N) : Memref sig .tc .vmem S512x512 .f32 := win0_5.stage (cfg0.slots t 5)
/-- Window 6's buffer at a point. -/
abbrev mw6 (t : Fin cfg0.N) : Memref sig .tc .vmem S1x512 .f32 := win0_6.stage (cfg0.slots t 6)
/-- Window 7's buffer at a point. -/
abbrev mw7 (t : Fin cfg0.N) : Memref sig .tc .vmem S1x512 .f32 := win0_7.stage (cfg0.slots t 7)
/-- Window 8's buffer at a point. -/
abbrev mw8 (t : Fin cfg0.N) : Memref sig .tc .vmem S1x512 .f32 := win0_8.stage (cfg0.slots t 8)
/-- Window 9's buffer at a point. -/
abbrev mw9 (t : Fin cfg0.N) : Memref sig .tc .vmem S128x512 .f32 := win0_9.stage (cfg0.slots t 9)
/-- Window 10's buffer at a point. -/
abbrev mw10 (t : Fin cfg0.N) : Memref sig .tc .vmem S1x128 .f32 := win0_10.stage (cfg0.slots t 10)
/-- Window 11's buffer at a point. -/
abbrev mw11 (t : Fin cfg0.N) : Memref sig .tc .vmem S32x512 .f32 := win0_11.stage (cfg0.slots t 11)
/-- Window 12's buffer at a point. -/
abbrev mw12 (t : Fin cfg0.N) : Memref sig .tc .vmem S8x512x32 .f32 := win0_12.stage (cfg0.slots t 12)
/-- Window 13's buffer at a point. -/
abbrev mw13 (t : Fin cfg0.N) : Memref sig .tc .vmem S128x32 .f32 := win0_13.stage (cfg0.slots t 13)
/-- Window 14's buffer at a point. -/
abbrev mw14 (t : Fin cfg0.N) : Memref sig .tc .vmem S8x32x128 .f32 := win0_14.stage (cfg0.slots t 14)
/-- Window 15's buffer at a point. -/
abbrev mw15 (t : Fin cfg0.N) : Memref sig .tc .vmem S16x256 .f32 := win0_15.stage (cfg0.slots t 15)
/-- Window 16's buffer at a point. -/
abbrev mw16 (t : Fin cfg0.N) : Memref sig .tc .vmem S8x256x16 .f32 := win0_16.stage (cfg0.slots t 16)
/-- Window 17's buffer at a point. -/
abbrev mw17 (t : Fin cfg0.N) : Memref sig .tc .vmem S10x16 .f32 := win0_17.stage (cfg0.slots t 17)
/-- Window 18's buffer at a point. -/
abbrev mw18 (t : Fin cfg0.N) : Memref sig .tc .vmem S8x16x10 .f32 := win0_18.stage (cfg0.slots t 18)
/-- Window 19's buffer at a point. -/
abbrev mw19 (t : Fin cfg0.N) : Memref sig .tc .vmem S1000x10 .f32 := win0_19.stage (cfg0.slots t 19)
/-- Scratch array 0. -/
abbrev sc0 : Memref sig .tc .vmem S10000x512 .f32 := Memref.whole cc0_scratch0
/-- Scratch array 1. -/
abbrev sc1 : Memref sig .tc .vmem S10000x512 .f32 := Memref.whole cc0_scratch1
/-- Scratch array 2. -/
abbrev sc2 : Memref sig .tc .vmem S8x512 .f32 := Memref.whole cc0_scratch2
/-- Scratch array 3. -/
abbrev sc3 : Memref sig .tc .vmem S8x512 .f32 := Memref.whole cc0_scratch3

/-- The launch hands the four scratch arrays at anything, and the generator register. -/
theorem launch_hands (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What holds before point `n`: the scratch arrays with what is known of them, and the generator register. -/
def Phi (c : Dev nD) (n : ℕ) : sProp 𝕄 :=
  iprop(∃ s1, ∃ s2, ∃ t1, ∃ t2, ⌜Inv m c n s1 s2 t1 t2⌝ ∗ owns (c : Thread nD τ) sc0 fullShare s1 ∗ owns (c : Thread nD τ) sc1 fullShare s2
    ∗ owns (c : Thread nD τ) sc2 fullShare t1 ∗ owns (c : Thread nD τ) sc3 fullShare t2 ∗ (∃ r, prngReg c r))

/-- The launch's data: the arrays as the region finds them, each input's block in its buffer, the third phase's output
    block in the output's, and what holds between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => OUT m c t
    | ⟨_ + 20, h⟩ => absurd h (Nat.not_lt.2 (Nat.le_add_left _ _))
  Φ t := Phi m c t.val
  q _ := fullShare
  owed _ := 0

/-- The arrays are as the region finds them. -/
theorem arrays (c : Dev nD) (w : Fin cfg0.W) : (dats m 0 c).A w = V m c (Pipeline.arrRef spec0 w) := by
  dsimp only [dats]

/-- What holds between two points. -/
theorem Phi_at (c : Dev nD) (t : Fin (cfg0.N + 1)) : (dats m 0 c).Φ t = Phi m c t.val := by dsimp only [dats]

/-- The body leaves input 0's block in place. -/
theorem after0 (c : Dev nD) (t : Fin cfg0.N) : (dats m 0 c).after 0 t = iblk m c 0 t := by dsimp only [dats]
/-- Input 0's buffer holds its block before the body. -/
theorem before0 (c : Dev nD) (t : Fin cfg0.N) (d) : (dats m 0 c).before 0 t d = iblk m c 0 t :=
  before0_0_of m (dats m 0 c) (arrays m c 0) (after0 m c) t d
/-- Input 0's buffer holds its block after the body. -/
theorem leaves0 (c : Dev nD) (t : Fin cfg0.N) : (dats m 0 c).leavesExact 0 t = owns (c : Thread nD τ) (mw0 t) fullShare (iblk m c 0 t) := by
  unfold Dat.leavesExact; rw [show cfg0.idle 0 (grid0.coords t) = false from rfl, after0]
/-- The body leaves input 1's block in place. -/
theorem after1 (c : Dev nD) (t : Fin cfg0.N) : (dats m 0 c).after 1 t = iblk m c 1 t := by dsimp only [dats]
/-- Input 1's buffer holds its block before the body. -/
theorem before1 (c : Dev nD) (t : Fin cfg0.N) (d) : (dats m 0 c).before 1 t d = iblk m c 1 t :=
  before0_1_of m (dats m 0 c) (arrays m c 1) (after1 m c) t d
/-- Input 1's buffer holds its block after the body. -/
theorem leaves1 (c : Dev nD) (t : Fin cfg0.N) : (dats m 0 c).leavesExact 1 t = owns (c : Thread nD τ) (mw1 t) fullShare (iblk m c 1 t) := by
  unfold Dat.leavesExact; rw [show cfg0.idle 1 (grid0.coords t) = false from rfl, after1]
/-- The body leaves input 2's block in place. -/
theorem after2 (c : Dev nD) (t : Fin cfg0.N) : (dats m 0 c).after 2 t = iblk m c 2 t := by dsimp only [dats]
/-- Input 2's buffer holds its block before the body. -/
theorem before2 (c : Dev nD) (t : Fin cfg0.N) (d) : (dats m 0 c).before 2 t d = iblk m c 2 t :=
  before0_2_of m (dats m 0 c) (arrays m c 2) (after2 m c) t d
/-- Input 2's buffer holds its block after the body. -/
theorem leaves2 (c : Dev nD) (t : Fin cfg0.N) : (dats m 0 c).leavesExact 2 t = owns (c : Thread nD τ) (mw2 t) fullShare (iblk m c 2 t) := by
  unfold Dat.leavesExact; rw [show cfg0.idle 2 (grid0.coords t) = false from rfl, after2]
/-- The body leaves input 3's block in place. -/
theorem after3 (c : Dev nD) (t : Fin cfg0.N) : (dats m 0 c).after 3 t = iblk m c 3 t := by dsimp only [dats]
/-- Input 3's buffer holds its block before the body. -/
theorem before3 (c : Dev nD) (t : Fin cfg0.N) (d) : (dats m 0 c).before 3 t d = iblk m c 3 t :=
  before0_3_of m (dats m 0 c) (arrays m c 3) (after3 m c) t d
/-- Input 3's buffer holds its block after the body. -/
theorem leaves3 (c : Dev nD) (t : Fin cfg0.N) : (dats m 0 c).leavesExact 3 t = owns (c : Thread nD τ) (mw3 t) fullShare (iblk m c 3 t) := by
  unfold Dat.leavesExact; rw [show cfg0.idle 3 (grid0.coords t) = false from rfl, after3]
/-- The body leaves input 4's block in place. -/
theorem after4 (c : Dev nD) (t : Fin cfg0.N) : (dats m 0 c).after 4 t = iblk m c 4 t := by dsimp only [dats]
/-- Input 4's buffer holds its block before the body. -/
theorem before4 (c : Dev nD) (t : Fin cfg0.N) (d) : (dats m 0 c).before 4 t d = iblk m c 4 t :=
  before0_4_of m (dats m 0 c) (arrays m c 4) (after4 m c) t d
/-- Input 4's buffer holds its block after the body. -/
theorem leaves4 (c : Dev nD) (t : Fin cfg0.N) : (dats m 0 c).leavesExact 4 t = owns (c : Thread nD τ) (mw4 t) fullShare (iblk m c 4 t) := by
  unfold Dat.leavesExact; rw [show cfg0.idle 4 (grid0.coords t) = false from rfl, after4]
/-- The body leaves input 5's block in place. -/
theorem after5 (c : Dev nD) (t : Fin cfg0.N) : (dats m 0 c).after 5 t = iblk m c 5 t := by dsimp only [dats]
/-- Input 5's buffer holds its block before the body. -/
theorem before5 (c : Dev nD) (t : Fin cfg0.N) (d) : (dats m 0 c).before 5 t d = iblk m c 5 t :=
  before0_5_of m (dats m 0 c) (arrays m c 5) (after5 m c) t d
/-- Input 5's buffer holds its block after the body. -/
theorem leaves5 (c : Dev nD) (t : Fin cfg0.N) : (dats m 0 c).leavesExact 5 t = owns (c : Thread nD τ) (mw5 t) fullShare (iblk m c 5 t) := by
  unfold Dat.leavesExact; rw [show cfg0.idle 5 (grid0.coords t) = false from rfl, after5]
/-- The body leaves input 6's block in place. -/
theorem after6 (c : Dev nD) (t : Fin cfg0.N) : (dats m 0 c).after 6 t = iblk m c 6 t := by dsimp only [dats]
/-- Input 6's buffer holds its block before the body. -/
theorem before6 (c : Dev nD) (t : Fin cfg0.N) (d) : (dats m 0 c).before 6 t d = iblk m c 6 t :=
  before0_6_of m (dats m 0 c) (arrays m c 6) (after6 m c) t d
/-- Input 6's buffer holds its block after the body. -/
theorem leaves6 (c : Dev nD) (t : Fin cfg0.N) : (dats m 0 c).leavesExact 6 t = owns (c : Thread nD τ) (mw6 t) fullShare (iblk m c 6 t) := by
  unfold Dat.leavesExact; rw [show cfg0.idle 6 (grid0.coords t) = false from rfl, after6]
/-- The body leaves input 7's block in place. -/
theorem after7 (c : Dev nD) (t : Fin cfg0.N) : (dats m 0 c).after 7 t = iblk m c 7 t := by dsimp only [dats]
/-- Input 7's buffer holds its block before the body. -/
theorem before7 (c : Dev nD) (t : Fin cfg0.N) (d) : (dats m 0 c).before 7 t d = iblk m c 7 t :=
  before0_7_of m (dats m 0 c) (arrays m c 7) (after7 m c) t d
/-- Input 7's buffer holds its block after the body. -/
theorem leaves7 (c : Dev nD) (t : Fin cfg0.N) : (dats m 0 c).leavesExact 7 t = owns (c : Thread nD τ) (mw7 t) fullShare (iblk m c 7 t) := by
  unfold Dat.leavesExact; rw [show cfg0.idle 7 (grid0.coords t) = false from rfl, after7]
/-- The body leaves input 8's block in place. -/
theorem after8 (c : Dev nD) (t : Fin cfg0.N) : (dats m 0 c).after 8 t = iblk m c 8 t := by dsimp only [dats]
/-- Input 8's buffer holds its block before the body. -/
theorem before8 (c : Dev nD) (t : Fin cfg0.N) (d) : (dats m 0 c).before 8 t d = iblk m c 8 t :=
  before0_8_of m (dats m 0 c) (arrays m c 8) (after8 m c) t d
/-- Input 8's buffer holds its block after the body. -/
theorem leaves8 (c : Dev nD) (t : Fin cfg0.N) : (dats m 0 c).leavesExact 8 t = owns (c : Thread nD τ) (mw8 t) fullShare (iblk m c 8 t) := by
  unfold Dat.leavesExact; rw [show cfg0.idle 8 (grid0.coords t) = false from rfl, after8]
/-- The body leaves input 9's block in place. -/
theorem after9 (c : Dev nD) (t : Fin cfg0.N) : (dats m 0 c).after 9 t = iblk m c 9 t := by dsimp only [dats]
/-- Input 9's buffer holds its block before the body. -/
theorem before9 (c : Dev nD) (t : Fin cfg0.N) (d) : (dats m 0 c).before 9 t d = iblk m c 9 t :=
  before0_9_of m (dats m 0 c) (arrays m c 9) (after9 m c) t d
/-- Input 9's buffer holds its block after the body. -/
theorem leaves9 (c : Dev nD) (t : Fin cfg0.N) : (dats m 0 c).leavesExact 9 t = owns (c : Thread nD τ) (mw9 t) fullShare (iblk m c 9 t) := by
  unfold Dat.leavesExact; rw [show cfg0.idle 9 (grid0.coords t) = false from rfl, after9]
/-- The body leaves input 10's block in place. -/
theorem after10 (c : Dev nD) (t : Fin cfg0.N) : (dats m 0 c).after 10 t = iblk m c 10 t := by dsimp only [dats]
/-- Input 10's buffer holds its block before the body. -/
theorem before10 (c : Dev nD) (t : Fin cfg0.N) (d) : (dats m 0 c).before 10 t d = iblk m c 10 t :=
  before0_10_of m (dats m 0 c) (arrays m c 10) (after10 m c) t d
/-- Input 10's buffer holds its block after the body. -/
theorem leaves10 (c : Dev nD) (t : Fin cfg0.N) : (dats m 0 c).leavesExact 10 t = owns (c : Thread nD τ) (mw10 t) fullShare (iblk m c 10 t) := by
  unfold Dat.leavesExact; rw [show cfg0.idle 10 (grid0.coords t) = false from rfl, after10]
/-- The body leaves input 11's block in place. -/
theorem after11 (c : Dev nD) (t : Fin cfg0.N) : (dats m 0 c).after 11 t = iblk m c 11 t := by dsimp only [dats]
/-- Input 11's buffer holds its block before the body. -/
theorem before11 (c : Dev nD) (t : Fin cfg0.N) (d) : (dats m 0 c).before 11 t d = iblk m c 11 t :=
  before0_11_of m (dats m 0 c) (arrays m c 11) (after11 m c) t d
/-- Input 11's buffer holds its block after the body. -/
theorem leaves11 (c : Dev nD) (t : Fin cfg0.N) : (dats m 0 c).leavesExact 11 t = owns (c : Thread nD τ) (mw11 t) fullShare (iblk m c 11 t) := by
  unfold Dat.leavesExact; rw [show cfg0.idle 11 (grid0.coords t) = false from rfl, after11]
/-- The body leaves input 12's block in place. -/
theorem after12 (c : Dev nD) (t : Fin cfg0.N) : (dats m 0 c).after 12 t = iblk m c 12 t := by dsimp only [dats]
/-- Input 12's buffer holds its block before the body. -/
theorem before12 (c : Dev nD) (t : Fin cfg0.N) (d) : (dats m 0 c).before 12 t d = iblk m c 12 t :=
  before0_12_of m (dats m 0 c) (arrays m c 12) (after12 m c) t d
/-- Input 12's buffer holds its block after the body. -/
theorem leaves12 (c : Dev nD) (t : Fin cfg0.N) : (dats m 0 c).leavesExact 12 t = owns (c : Thread nD τ) (mw12 t) fullShare (iblk m c 12 t) := by
  unfold Dat.leavesExact; rw [show cfg0.idle 12 (grid0.coords t) = false from rfl, after12]
/-- The body leaves input 13's block in place. -/
theorem after13 (c : Dev nD) (t : Fin cfg0.N) : (dats m 0 c).after 13 t = iblk m c 13 t := by dsimp only [dats]
/-- Input 13's buffer holds its block before the body. -/
theorem before13 (c : Dev nD) (t : Fin cfg0.N) (d) : (dats m 0 c).before 13 t d = iblk m c 13 t :=
  before0_13_of m (dats m 0 c) (arrays m c 13) (after13 m c) t d
/-- Input 13's buffer holds its block after the body. -/
theorem leaves13 (c : Dev nD) (t : Fin cfg0.N) : (dats m 0 c).leavesExact 13 t = owns (c : Thread nD τ) (mw13 t) fullShare (iblk m c 13 t) := by
  unfold Dat.leavesExact; rw [show cfg0.idle 13 (grid0.coords t) = false from rfl, after13]
/-- The body leaves input 14's block in place. -/
theorem after14 (c : Dev nD) (t : Fin cfg0.N) : (dats m 0 c).after 14 t = iblk m c 14 t := by dsimp only [dats]
/-- Input 14's buffer holds its block before the body. -/
theorem before14 (c : Dev nD) (t : Fin cfg0.N) (d) : (dats m 0 c).before 14 t d = iblk m c 14 t :=
  before0_14_of m (dats m 0 c) (arrays m c 14) (after14 m c) t d
/-- Input 14's buffer holds its block after the body. -/
theorem leaves14 (c : Dev nD) (t : Fin cfg0.N) : (dats m 0 c).leavesExact 14 t = owns (c : Thread nD τ) (mw14 t) fullShare (iblk m c 14 t) := by
  unfold Dat.leavesExact; rw [show cfg0.idle 14 (grid0.coords t) = false from rfl, after14]
/-- The body leaves input 15's block in place. -/
theorem after15 (c : Dev nD) (t : Fin cfg0.N) : (dats m 0 c).after 15 t = iblk m c 15 t := by dsimp only [dats]
/-- Input 15's buffer holds its block before the body. -/
theorem before15 (c : Dev nD) (t : Fin cfg0.N) (d) : (dats m 0 c).before 15 t d = iblk m c 15 t :=
  before0_15_of m (dats m 0 c) (arrays m c 15) (after15 m c) t d
/-- Input 15's buffer holds its block after the body. -/
theorem leaves15 (c : Dev nD) (t : Fin cfg0.N) : (dats m 0 c).leavesExact 15 t = owns (c : Thread nD τ) (mw15 t) fullShare (iblk m c 15 t) := by
  unfold Dat.leavesExact; rw [show cfg0.idle 15 (grid0.coords t) = false from rfl, after15]
/-- The body leaves input 16's block in place. -/
theorem after16 (c : Dev nD) (t : Fin cfg0.N) : (dats m 0 c).after 16 t = iblk m c 16 t := by dsimp only [dats]
/-- Input 16's buffer holds its block before the body. -/
theorem before16 (c : Dev nD) (t : Fin cfg0.N) (d) : (dats m 0 c).before 16 t d = iblk m c 16 t :=
  before0_16_of m (dats m 0 c) (arrays m c 16) (after16 m c) t d
/-- Input 16's buffer holds its block after the body. -/
theorem leaves16 (c : Dev nD) (t : Fin cfg0.N) : (dats m 0 c).leavesExact 16 t = owns (c : Thread nD τ) (mw16 t) fullShare (iblk m c 16 t) := by
  unfold Dat.leavesExact; rw [show cfg0.idle 16 (grid0.coords t) = false from rfl, after16]
/-- The body leaves input 17's block in place. -/
theorem after17 (c : Dev nD) (t : Fin cfg0.N) : (dats m 0 c).after 17 t = iblk m c 17 t := by dsimp only [dats]
/-- Input 17's buffer holds its block before the body. -/
theorem before17 (c : Dev nD) (t : Fin cfg0.N) (d) : (dats m 0 c).before 17 t d = iblk m c 17 t :=
  before0_17_of m (dats m 0 c) (arrays m c 17) (after17 m c) t d
/-- Input 17's buffer holds its block after the body. -/
theorem leaves17 (c : Dev nD) (t : Fin cfg0.N) : (dats m 0 c).leavesExact 17 t = owns (c : Thread nD τ) (mw17 t) fullShare (iblk m c 17 t) := by
  unfold Dat.leavesExact; rw [show cfg0.idle 17 (grid0.coords t) = false from rfl, after17]
/-- The body leaves input 18's block in place. -/
theorem after18 (c : Dev nD) (t : Fin cfg0.N) : (dats m 0 c).after 18 t = iblk m c 18 t := by dsimp only [dats]
/-- Input 18's buffer holds its block before the body. -/
theorem before18 (c : Dev nD) (t : Fin cfg0.N) (d) : (dats m 0 c).before 18 t d = iblk m c 18 t :=
  before0_18_of m (dats m 0 c) (arrays m c 18) (after18 m c) t d
/-- Input 18's buffer holds its block after the body. -/
theorem leaves18 (c : Dev nD) (t : Fin cfg0.N) : (dats m 0 c).leavesExact 18 t = owns (c : Thread nD τ) (mw18 t) fullShare (iblk m c 18 t) := by
  unfold Dat.leavesExact; rw [show cfg0.idle 18 (grid0.coords t) = false from rfl, after18]
/-- The output's buffer after a point. -/
theorem after19 (c : Dev nD) (t : Fin cfg0.N) : (dats m 0 c).after 19 t = OUT m c t := by dsimp only [dats]
/-- In the third phase the output's buffer is left with the output block. -/
theorem leaves19 (c : Dev nD) (t : Fin cfg0.N) (ht : 20 ≤ t.val) : (dats m 0 c).leavesExact 19 t = owns (c : Thread nD τ) (mw19 t) fullShare (OUT m c t) := by
  unfold Dat.leavesExact; rw [out_live t ht, after19]

/-! ## The body at a point -/

/-- What the body is called with, and what it leaves. -/
def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d))
    ∗ (∃ d, owns (c : Thread nD τ) (mw6 t) fullShare ((dats m 0 c).before 6 t d))
    ∗ (∃ d, owns (c : Thread nD τ) (mw7 t) fullShare ((dats m 0 c).before 7 t d))
    ∗ (∃ d, owns (c : Thread nD τ) (mw8 t) fullShare ((dats m 0 c).before 8 t d))
    ∗ (∃ d, owns (c : Thread nD τ) (mw9 t) fullShare ((dats m 0 c).before 9 t d))
    ∗ (∃ d, owns (c : Thread nD τ) (mw10 t) fullShare ((dats m 0 c).before 10 t d))
    ∗ (∃ d, owns (c : Thread nD τ) (mw11 t) fullShare ((dats m 0 c).before 11 t d))
    ∗ (∃ d, owns (c : Thread nD τ) (mw12 t) fullShare ((dats m 0 c).before 12 t d))
    ∗ (∃ d, owns (c : Thread nD τ) (mw13 t) fullShare ((dats m 0 c).before 13 t d))
    ∗ (∃ d, owns (c : Thread nD τ) (mw14 t) fullShare ((dats m 0 c).before 14 t d))
    ∗ (∃ d, owns (c : Thread nD τ) (mw15 t) fullShare ((dats m 0 c).before 15 t d))
    ∗ (∃ d, owns (c : Thread nD τ) (mw16 t) fullShare ((dats m 0 c).before 16 t d))
    ∗ (∃ d, owns (c : Thread nD τ) (mw17 t) fullShare ((dats m 0 c).before 17 t d))
    ∗ (∃ d, owns (c : Thread nD τ) (mw18 t) fullShare ((dats m 0 c).before 18 t d))
    ∗ (∃ d, owns (c : Thread nD τ) (mw19 t) fullShare ((dats m 0 c).before 19 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

/-- The first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  unfold bodyPre bodyPost bodyAt0
  simp only [before0, before1, before2, before3, before4, before5, before6, before7, before8, before9, before10, before11, before12, before13, before14, before15, before16, before17, before18, leaves0, leaves1, leaves2, leaves3, leaves4, leaves5, leaves6, leaves7, leaves8, leaves9, leaves10, leaves11, leaves12, leaves13, leaves14, leaves15, leaves16, leaves17, leaves18]
  rw [show (dats m 0 c).owesAt () t.succ = (dats m 0 c).owesAt () t.castSucc from rfl, Phi_at, Phi_at]
  rw [show (t.succ).val = t.val + 1 from rfl, show (t.castSucc).val = t.val from rfl]
  rw [Dat.leavesExact_idle (dats m 0 c) 19 t (out_idle t (by omega)) (out_stays t (by omega))]
  unfold Phi
  iintro ⟨⟨%s1, %s2, %t1, %t2, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have hp : t = pt 0 := (pt_val t).symm.trans (congrArg pt h0)
  rw [show t.val + 1 = 1 by omega]
  iapply (run_first _ _ _ _ _ _ _ _ _ _ _ _ _ _ _ _ _ _ _ _ _ _ _ _ _ _ _ _ _ _ _ _ _ _ _ _ _ _ _ _ _ _ _ _ _ _ _ _ c (grid0.coords t) ((zero_iff t).2 h0) ((one_iff t).2 (by omega)) (fun h => absurd ((two_iff t).1 h) (by omega)) (fun h => absurd ((three_iff t).1 h) (by omega)) (k := 0) (by omega) ((off_one t).trans (by rw [h0])) (iblk m c 0 t) (iblk m c 1 t) (iblk m c 2 t) s1 t1 t2 Set.univ _)
  isplitl [H0]; · iexact H0
  isplitl [H1]; · iexact H1
  isplitl [H2]; · iexact H2
  isplitl [HS0]; · iexact HS0
  isplitl [HS2]; · iexact HS2
  isplitl [HS3]; · iexact HS3
  iintro ⟨H0, H1, H2, HS0, HS2, HS3⟩
  isplitl [HS0 HS1 HS2 HS3 Hg]
  · iexists (rowsPut 0 s1 (k0_pay4 (iblk m c 0 t) (iblk m c 1 t) (iblk m c 2 t))); iexists (s2); iexists (k0_pay5 (iblk m c 0 t) (iblk m c 1 t) (iblk m c 2 t) (k0_pay1 (F := F))); iexists (k0_pay2 (F := F))
    isplitr; · ipureintro; exact (by subst hp; exact inv_first m c s1 s2)
    isplitl [HS0]; · iexact HS0
    isplitl [HS1]; · iexact HS1
    isplitl [HS2]; · iexact HS2
    isplitl [HS3]; · iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists _; iexact H19

/-- A later point of the first phase. -/
theorem body_one (c : Dev nD) (t : Fin cfg0.N) (h0 : 0 < t.val) (h1 : t.val < 10) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  unfold bodyPre bodyPost bodyAt0
  simp only [before0, before1, before2, before3, before4, before5, before6, before7, before8, before9, before10, before11, before12, before13, before14, before15, before16, before17, before18, leaves0, leaves1, leaves2, leaves3, leaves4, leaves5, leaves6, leaves7, leaves8, leaves9, leaves10, leaves11, leaves12, leaves13, leaves14, leaves15, leaves16, leaves17, leaves18]
  rw [show (dats m 0 c).owesAt () t.succ = (dats m 0 c).owesAt () t.castSucc from rfl, Phi_at, Phi_at]
  rw [show (t.succ).val = t.val + 1 from rfl, show (t.castSucc).val = t.val from rfl]
  rw [Dat.leavesExact_idle (dats m 0 c) 19 t (out_idle t (by omega)) (out_stays t (by omega))]
  unfold Phi
  iintro ⟨⟨%s1, %s2, %t1, %t2, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have hv : pt t.val = t := pt_val t
  iapply (run_one _ _ _ _ _ _ _ _ _ _ _ _ _ _ _ _ _ _ _ _ _ _ _ _ _ _ _ _ _ _ _ _ _ _ _ _ _ _ _ _ _ _ _ _ _ _ _ _ c (grid0.coords t) (fun h => absurd ((zero_iff t).1 h) (by omega)) ((one_iff t).2 (by omega)) (fun h => absurd ((two_iff t).1 h) (by omega)) (fun h => absurd ((three_iff t).1 h) (by omega)) (k := t.val) (by omega) ((off_one t).trans (by rw [Nat.mod_eq_of_lt h1])) (iblk m c 0 t) (iblk m c 1 t) (iblk m c 2 t) s1 t1 Set.univ _)
  isplitl [H0]; · iexact H0
  isplitl [H1]; · iexact H1
  isplitl [H2]; · iexact H2
  isplitl [HS0]; · iexact HS0
  isplitl [HS2]; · iexact HS2
  iintro ⟨H0, H1, H2, HS0, HS2⟩
  isplitl [HS0 HS1 HS2 HS3 Hg]
  · iexists (rowsPut t.val s1 (k0_pay4 (iblk m c 0 t) (iblk m c 1 t) (iblk m c 2 t))); iexists (s2); iexists (k0_pay5 (iblk m c 0 t) (iblk m c 1 t) (iblk m c 2 t) t1); iexists (t2)
    isplitr; · ipureintro; exact (inv_one_at m c t h0 h1 s1 s2 t1 t2 hI)
    isplitl [HS0]; · iexact HS0
    isplitl [HS1]; · iexact HS1
    isplitl [HS2]; · iexact HS2
    isplitl [HS3]; · iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists _; iexact H19

/-- A point of the second phase. -/
theorem body_two (c : Dev nD) (t : Fin cfg0.N) (h0 : 10 ≤ t.val) (h1 : t.val < 20) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  unfold bodyPre bodyPost bodyAt0
  simp only [before0, before1, before2, before3, before4, before5, before6, before7, before8, before9, before10, before11, before12, before13, before14, before15, before16, before17, before18, leaves0, leaves1, leaves2, leaves3, leaves4, leaves5, leaves6, leaves7, leaves8, leaves9, leaves10, leaves11, leaves12, leaves13, leaves14, leaves15, leaves16, leaves17, leaves18]
  rw [show (dats m 0 c).owesAt () t.succ = (dats m 0 c).owesAt () t.castSucc from rfl, Phi_at, Phi_at]
  rw [show (t.succ).val = t.val + 1 from rfl, show (t.castSucc).val = t.val from rfl]
  rw [Dat.leavesExact_idle (dats m 0 c) 19 t (out_idle t (by omega)) (out_stays t (by omega))]
  unfold Phi
  iintro ⟨⟨%s1, %s2, %t1, %t2, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  obtain ⟨k, hk⟩ : ∃ k, t.val = 10 + k := ⟨t.val - 10, by omega⟩
  have hv : pt (10 + k) = t := by rw [← hk]; exact pt_val t
  have e1 : t1 = ST1 m c 10 := by rw [hI.sums1 (by omega), Nat.min_eq_right (by omega)]
  have e2 : t2 = ST2 m c k := by rw [hI.sums2 (by omega), show min (t.val - 10) 10 = k by omega]
  have er : rowsGet k s1 = H1 m c k := hI.rows1 k (by omega) (by omega)
  iapply (run_two _ _ _ _ _ _ _ _ _ _ _ _ _ _ _ _ _ _ _ _ _ _ _ _ _ _ _ _ _ _ _ _ _ _ _ _ _ _ _ _ _ _ _ _ _ _ _ _ c (grid0.coords t) (fun h => absurd ((zero_iff t).1 h) (by omega)) (fun h => absurd ((one_iff t).1 h) (by omega)) ((two_iff t).2 (by omega)) (fun h => absurd ((three_iff t).1 h) (by omega)) (k := k) (by omega) ((off_two t).trans (by rw [hk, show (10 + k) % 10 = k by omega])) (iblk m c 3 t) (iblk m c 4 t) (iblk m c 5 t) (iblk m c 6 t) s1 s2 t1 t2 Set.univ _)
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H3, H4, H5, H6, HS0, HS1, HS2, HS3⟩
  isplitl [HS0 HS1 HS2 HS3 Hg]
  · iexists (s1); iexists (rowsPut k s2 (k0_pay9 (stRow0 t1) (stRow1 t1) (iblk m c 3 t) (iblk m c 4 t) (rowsGet k s1) (iblk m c 5 t) (iblk m c 6 t))); iexists (t1); iexists (k0_pay6 (k0_pay8 (stRow0 t1) (stRow1 t1) (iblk m c 3 t) (iblk m c 4 t) (rowsGet k s1) (iblk m c 5 t) (iblk m c 6 t)) t2)
    isplitr; · ipureintro; exact (by rw [hk] at hI ⊢; have h := inv_two m c k (by omega) s1 s2 t1 t2 hI; rw [er, e1, e2]; rw [e1] at h; simp only [H2, ST2, hv] at h; exact h)
    isplitl [HS0]; · iexact HS0
    isplitl [HS1]; · iexact HS1
    isplitl [HS2]; · iexact HS2
    isplitl [HS3]; · iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists _; iexact H19

/-- A point of the third phase. -/
theorem body_three (c : Dev nD) (t : Fin cfg0.N) (h0 : 20 ≤ t.val) :
    bodyPre m c t ⊢ wp frame (wpE (defs₀ (F := F)) Variants.none c none) Set.univ (bodyAt0 t) (fun _ => bodyPost m c t) := by
  have hN : t.val < 30 := lt_of_lt_of_eq t.isLt (show cfg0.N = 30 from N_0)
  unfold bodyPre bodyPost bodyAt0
  simp only [before0, before1, before2, before3, before4, before5, before6, before7, before8, before9, before10, before11, before12, before13, before14, before15, before16, before17, before18, leaves0, leaves1, leaves2, leaves3, leaves4, leaves5, leaves6, leaves7, leaves8, leaves9, leaves10, leaves11, leaves12, leaves13, leaves14, leaves15, leaves16, leaves17, leaves18]
  rw [show (dats m 0 c).owesAt () t.succ = (dats m 0 c).owesAt () t.castSucc from rfl, Phi_at, Phi_at]
  rw [show (t.succ).val = t.val + 1 from rfl, show (t.castSucc).val = t.val from rfl]
  rw [leaves19 m c t h0]
  unfold Phi
  iintro ⟨⟨%s1, %s2, %t1, %t2, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have e2 : t2 = ST2 m c 10 := by rw [hI.sums2 (by omega), Nat.min_eq_right (by omega)]
  have er : rowsGet (t.val % 10) s2 = H2 m c (t.val % 10) := hI.rows2 _ (by omega) (by omega)
  unfold OUT
  rw [← e2, ← er]
  iapply (run_three _ _ _ _ _ _ _ _ _ _ _ _ _ _ _ _ _ _ _ _ _ _ _ _ _ _ _ _ _ _ _ _ _ _ _ _ _ _ _ _ _ _ _ _ _ _ _ _ c (grid0.coords t) (fun h => absurd ((zero_iff t).1 h) (by omega)) (fun h => absurd ((one_iff t).1 h) (by omega)) (fun h => absurd ((two_iff t).1 h) (by omega)) ((three_iff t).2 (by omega)) (k := t.val % 10) (by omega) (off_three t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) ((dats m 0 c).before 19 t d19) s2 t2 Set.univ _)
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS1]; · iexact HS1
  isplitl [HS3]; · iexact HS3
  iintro ⟨H7, H8, H9, H10, H11, H12, H13, H14, H15, H16, H17, H18, H19, HS1, HS3⟩
  isplitl [HS0 HS1 HS2 HS3 Hg]
  · iexists (s1); iexists (s2); iexists (t1); iexists (t2)
    isplitr; · ipureintro; exact (inv_three m c t.val h0 s1 s2 t1 t2 hI)
    isplitl [HS0]; · iexact HS0
    isplitl [HS1]; · iexact HS1
    isplitl [HS2]; · iexact HS2
    isplitl [HS3]; · iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body at every point. -/
theorem body (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  by_cases h1 : t.val < 10
  · exact body_one m c t (by omega) h1
  by_cases h2 : t.val < 20
  · exact body_two m c t (by omega) h2
  · exact body_three m c t (by omega)

/-- The body that the launch runs at a point. -/
theorem body_row (t : Fin cfg0.N) : defs₀ (F := F) .tc cfg0.body (cfg0.bodyArgs t (cfg0.slots t)) = bodyAt0 t := by
  unfold defs₀; rw [Defs.onTc_tc]

/-- The body meets what the launch asks of it at every point. -/
theorem obligation (c : Dev nD) : BodyObligation (dats (F := F) m 0 c) (defs₀ (F := F)) Variants.none () Set.univ := fun t => by
  rw [bigSep_W0, bigSep_W0, body_row]
  exact triple_restated (body m c t) rfl .rfl fun _ => .rfl

/-- What the launch hands suffices before the first point. -/
theorem enter (c : Dev nD) : Pipeline.ΦA spec0 c ⊢ (dats m 0 c).Φ 0 := by
  rw [Phi_at, launch_hands]
  unfold Phi
  iintro ⟨⟨⟨%s1, HS0⟩, ⟨%s2, HS1⟩, ⟨%t1, HS2⟩, ⟨%t2, HS3⟩⟩, Hg⟩
  iexists _; iexists _; iexists _; iexists _
  isplitr; · ipureintro; exact inv_zero m c s1 s2 t1 t2
  isplitl [HS0]; · iexact HS0
  isplitl [HS1]; · iexact HS1
  isplitl [HS2]; · iexact HS2
  isplitl [HS3]; · iexact HS3
  iexact Hg

/-- What holds after the last point gives the scratch arrays back. -/
theorem leave (c : Dev nD) : (dats m 0 c).Φ (Fin.last cfg0.N) ⊢ Pipeline.ΦA spec0 c := by
  rw [Phi_at, launch_hands]
  unfold Phi
  iintro ⟨%s1, %s2, %t1, %t2, %hI, HS0, HS1, HS2, HS3, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The launch and the frame -/

set_option backward.isDefEq.respectTransparency.types false in
/-- Every execution of the launch ends, with every array of the pipeline at what the data say and every semaphore at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hin := enter m) (hout := leave m)

/-- The launch, without the semaphores. -/
theorem launch_post : θ_run defs (onTc (τ := τ) (main (F := F))) (s₀ m ρ) (Pipeline.FramePost cfgs (dats m) 0 (V m)) :=
  (θ_run defs _ _).mono (fun _ h => h.1) (launch m ρ)

/-- The frame: the kernel's argument arrays end as they began and every semaphore is at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (frame_of m ρ (dats m) (arrays m) (launch_post m ρ)) ((θ_run defs _ _).mono (fun _ h => h.2) (launch m ρ))

end Cert.KernelIdeal.Run

end
-- ==== Proof.Spec.lean ====
module
public import proofs.«01_k».proof.Proof.IdealRun
public import Idealize.ShloMosaic.Lib.Pointwise
@[expose] public section
noncomputable section
/-!
The functions of one row that the kernel and the reference compute, on extended reals.
-/
namespace Cert.Spec
open Idealize.ShloMosaic

/-- The kernel's `x · 1 / (1 + exp (0 - x))`. -/
def kSilu (x : EReal) : EReal := x * Ideal.div 1 (1 + Ideal.exp (0 - x))

/-- The distance of the scaled point from a centre. -/
def kDist (c : BitVec 32) (x : EReal) : EReal :=
  FloatOps.absf (F := Ideal) (φ := FTy.f32) (x * Ideal.ofBits FTy.f32 0x40200000#32 + Ideal.ofBits FTy.f32 0x40B00000#32 - Ideal.ofBits FTy.f32 c)

/-- Six times the cubic basis function, from the distance to its centre: `(2 - d)₊³ - 4 (1 - d)₊³`. -/
def kCube (d : EReal) : EReal :=
  max (Ideal.ofBits FTy.f32 0x40000000#32 - d) 0 * max (Ideal.ofBits FTy.f32 0x40000000#32 - d) 0 * max (Ideal.ofBits FTy.f32 0x40000000#32 - d) 0
    - Ideal.ofBits FTy.f32 0x40800000#32 * (max (1 - d) 0 * max (1 - d) 0 * max (1 - d) 0)

/-- The kernel's basis function with centre `c`, times six. -/
def kBasis (c : BitVec 32) (x : EReal) : EReal := kCube (kDist c x)

/-- One entry of a spline layer as the kernel adds it up: the base part, then the eight basis functions in turn. -/
def kanK {n : ℕ} (x b : Fin n → EReal) (w : Fin 8 → Fin n → EReal) : EReal :=
  (∑ i, kSilu (x i) * b i) + (∑ i, kBasis 0x40000000#32 (x i) * w 0 i) + (∑ i, kBasis 0x40400000#32 (x i) * w 1 i)
    + (∑ i, kBasis 0x40800000#32 (x i) * w 2 i) + (∑ i, kBasis 0x40A00000#32 (x i) * w 3 i) + (∑ i, kBasis 0x40C00000#32 (x i) * w 4 i)
    + (∑ i, kBasis 0x40E00000#32 (x i) * w 5 i) + (∑ i, kBasis 0x41000000#32 (x i) * w 6 i) + (∑ i, kBasis 0x41100000#32 (x i) * w 7 i)

/-- The reference's `x · 1 / (1 + exp (-x))`. -/
def rSilu (x : EReal) : EReal := x * Ideal.div 1 (1 + Ideal.exp (-x))

/-- Knot `m` of the reference's grid, as it is computed: `(-3 + m) · (2 / 5) - 1`. -/
def knot (m : ℕ) : EReal :=
  (Ideal.ofBits FTy.f32 0xC0400000#32 + FloatOps.sitofp (F := Ideal) FTy.f32 (BitVec.ofNat 32 m)) * Ideal.div (Ideal.ofBits FTy.f32 0x40000000#32) (Ideal.ofBits FTy.f32 0x40A00000#32) - 1

/-- The reference's basis functions: degree 0 is the indicator of a knot interval, and degree `k + 1` is the two-term
    recursion over the degree below. -/
def refB : ℕ → ℕ → EReal → EReal
  | 0, m, x => FloatOps.uitofp (F := Ideal) FTy.f32 (IntOp.andi (BitVec.ofBool (decide (knot m ≤ x))) (BitVec.ofBool (decide (x < knot (1 + m)))))
  | k + 1, m, x => Ideal.div (x - knot m) (knot (k + 1 + m) - knot m) * refB k m x
      + Ideal.div (knot (k + 2 + m) - x) (knot (k + 2 + m) - knot (1 + m)) * refB k (1 + m) x

/-- One entry of a spline layer as the reference adds it up: the base part, and one sum over all pairs of an input and a
    basis function, with the spline weight multiplied by its scaler. -/
def kanR {n N : ℕ} (h : N = n * 8) (x b : Fin n → EReal) (w : Fin n → Fin 8 → EReal) (s : Fin n → EReal) : EReal :=
  (∑ i, rSilu (x i) * b i) + ∑ k : Fin N, refB 3 (k.val % 8) (x ⟨k.val / 8, by omega⟩) * (w ⟨k.val / 8, by omega⟩ ⟨k.val % 8, by omega⟩ * s ⟨k.val / 8, by omega⟩)

/-! ## The whole network on one row -/

/-- One entry of a linear layer. -/
def lin {n : ℕ} (x w : Fin n → EReal) (b : EReal) : EReal := (∑ q, x q * w q) + b

/-- The argument arrays, read at their indices. -/
structure Args where
  x : Fin 10000 → Fin 128 → EReal
  W1 : Fin 512 → Fin 128 → EReal
  b1 : Fin 512 → EReal
  g1 : Fin 512 → EReal
  be1 : Fin 512 → EReal
  W2 : Fin 512 → Fin 512 → EReal
  b2 : Fin 512 → EReal
  g2 : Fin 512 → EReal
  be2 : Fin 512 → EReal
  fW : Fin 128 → Fin 512 → EReal
  fb : Fin 128 → EReal
  k1b : Fin 32 → Fin 512 → EReal
  k1w : Fin 32 → Fin 512 → Fin 8 → EReal
  k1s : Fin 32 → Fin 512 → EReal
  k2b : Fin 128 → Fin 32 → EReal
  k2w : Fin 128 → Fin 32 → Fin 8 → EReal
  k2s : Fin 128 → Fin 32 → EReal
  k3b : Fin 16 → Fin 256 → EReal
  k3w : Fin 16 → Fin 256 → Fin 8 → EReal
  k3s : Fin 16 → Fin 256 → EReal
  k4b : Fin 10 → Fin 16 → EReal
  k4w : Fin 10 → Fin 16 → Fin 8 → EReal
  k4s : Fin 10 → Fin 16 → EReal

/-- A normalisation over the rows, with its gains and offsets, clipped at zero. -/
abbrev Norm := (Fin 10000 → Fin 512 → EReal) → (Fin 512 → EReal) → (Fin 512 → EReal) → Fin 10000 → Fin 512 → EReal

/-- One entry of a spline layer from the inputs, the base weights, the spline weights and the scalers. -/
abbrev Kan := (n : ℕ) → (Fin n → EReal) → (Fin n → EReal) → (Fin n → Fin 8 → EReal) → (Fin n → EReal) → EReal

section Net
variable (N : Norm) (K : Kan) (A : Args)

/-- The first linear layer. -/
def h1 (r : Fin 10000) (f : Fin 512) : EReal := lin (A.x r) (A.W1 f) (A.b1 f)
/-- The first layer, normalised. -/
def a1 (r : Fin 10000) (f : Fin 512) : EReal := N (h1 A) A.g1 A.be1 r f
/-- The second linear layer. -/
def h2 (r : Fin 10000) (f : Fin 512) : EReal := lin (a1 N A r) (A.W2 f) (A.b2 f)
/-- The second layer, normalised. -/
def a2 (r : Fin 10000) (f : Fin 512) : EReal := N (h2 N A) A.g2 A.be2 r f
/-- The linear branch, clipped at zero. -/
def x2 (r : Fin 10000) (f : Fin 128) : EReal := max (lin (a2 N A r) (A.fW f) (A.fb f)) 0
/-- The first spline layer. -/
def k1 (r : Fin 10000) (f : Fin 32) : EReal := K 512 (a2 N A r) (A.k1b f) (A.k1w f) (A.k1s f)
/-- The second spline layer. -/
def k2 (r : Fin 10000) (f : Fin 128) : EReal := K 32 (k1 N K A r) (A.k2b f) (A.k2w f) (A.k2s f)
/-- The two branches side by side. -/
def xc (r : Fin 10000) (f : Fin 256) : EReal := if h : f.val < 128 then x2 N A r ⟨f.val, h⟩ else k2 N K A r ⟨f.val - 128, by omega⟩
/-- The third spline layer. -/
def k3 (r : Fin 10000) (f : Fin 16) : EReal := K 256 (xc N K A r) (A.k3b f) (A.k3w f) (A.k3s f)
/-- The network's result: the fourth spline layer. -/
def net (r : Fin 10000) (f : Fin 10) : EReal := K 16 (k3 N K A r) (A.k4b f) (A.k4w f) (A.k4s f)
end Net

/-- The named constant of the kernel. -/
abbrev invN : EReal := Named.named (F := Ideal) (φ := FTy.f32) Cert.KernelIdeal.κ "inv_n" 953267991#32

/-- The kernel's normalisation of one entry, from the column's sum and sum of squares. -/
def bnK (s q g b h : EReal) : EReal :=
  max (h * (g * Ideal.rsqrt (q * invN - s * invN * (s * invN) + Ideal.ofBits FTy.f32 925353388#32))
    + (b - s * invN * (g * Ideal.rsqrt (q * invN - s * invN * (s * invN) + Ideal.ofBits FTy.f32 925353388#32)))) 0

/-- The kernel's normalisation of a whole array. -/
def normK : Norm := fun H g b r f => bnK (∑ r, H r f) (∑ r, H r f * H r f) (g f) (b f) (H r f)

/-- The kernel's spline layer: every scaler is multiplied by one sixth before the spline weights. -/
def layerK : Kan := fun _ x b w s => kanK x b fun j q => w q j * (s q * Ideal.div 1 (Ideal.ofBits FTy.f32 1086324736#32))

/-- The reference's normalisation: the mean, then the mean of the squared differences. -/
def normR : Norm := fun H g b r f =>
  max (g f * (H r f - Ideal.div (∑ x, H x f) (Ideal.ofBits FTy.f32 1176256512#32)) * Ideal.rsqrt
      ((if 0 < Ideal.ofBits FTy.f32 1176256512#32 - FloatOps.sitofp (F := Ideal) FTy.f32 0#32 then
          Ideal.div (∑ x, (H x f - Ideal.div (∑ x, H x f) (Ideal.ofBits FTy.f32 1176256512#32)) * (H x f - Ideal.div (∑ x, H x f) (Ideal.ofBits FTy.f32 1176256512#32)))
            (Ideal.ofBits FTy.f32 1176256512#32 - FloatOps.sitofp (F := Ideal) FTy.f32 0#32)
        else Ideal.ofBits FTy.f32 2143289344#32) + Ideal.ofBits FTy.f32 925353388#32) + b f) 0

/-- The reference's spline layer. -/
def layerR : Kan := fun n x b w s => kanR (n := n) rfl x b w s

end Cert.Spec
end
-- ==== Proof.KernelLayers.lean ====
module
public import proofs.«01_k».proof.Proof.Spec
@[expose] public section
noncomputable section
/-!
The four spline layers of the kernel, read at one row of a block and one output feature.
-/
namespace Cert.KernelIdeal.Layers
open Cert.KernelIdeal Cert.KernelIdeal.Gen Cert.KernelIdeal.Body Cert.Spec Idealize.ShloMosaic Idealize.ShloMosaic.TcCoe Idealize.SL.Sem
set_option maxRecDepth 16384

/-- The first spline layer of a block. -/
theorem layer1 (v16 v17 v24 v30 v35) (v58 : Vec Ideal S32x512 .f32) (W : Fin 8 → Vec Ideal S1x512x32 .f32) (r : Fin 1000) (f : Fin 32) :
    (let v41 := k0_pay10 v16 v17 v24 v30 v35
     let v54 := k0_pay12 v16 v17 v24 v30 v35
     let v63 := k0_pay13 v41
     let v85 := k0_pay14 v41 v54 v58 (W 0)
     let v92 := k0_pay16 v41
     let v94 := k0_pay17 v41
     let v129 := k0_pay18 v63 v85 v92 v94 (W 1) (W 2)
     let v132 := k0_pay19 v63
     let v134 := k0_pay20 v63
     let v135 := k0_pay21 (F := Ideal)
     let v173 := k0_pay22 v63 v129 v132 v134 v135 (W 3) (W 4)
     let v176 := k0_pay23 v63
     let v217 := k0_pay24 v63 v173 v176 (Scalar.ofBits .f32 0x40000000#32) (W 5) (W 6)
     k0_pay25 v63 v217 (Scalar.ofBits .f32 0x41100000#32) (W 7)) (ix2 r f)
      = kanK (fun q => k0_pay10 v16 v17 v24 v30 v35 (ix2 r q)) (fun q => v58 (ix2 f q)) (fun j q => W j (ix3 0 q f)) := by
  pointwise [k0_pay12, k0_pay13, k0_pay14, k0_pay15, k0_pay16, k0_pay17, k0_pay18, k0_pay19, k0_pay20, k0_pay21, k0_pay22, k0_pay23, k0_pay24, k0_pay25]
  rfl

/-- The second spline layer of a block, after the columns of the linear image. -/
theorem layer2 (v63 v217 v236) (v49 : Vec Ideal S1000x128 .f32) (v248 : Vec Ideal S128x32 .f32) (W : Fin 8 → Vec Ideal S1x32x128 .f32) (r : Fin 1000) (f : Fin 256) :
    (let cst := Scalar.ofBits (F := Ideal) .f32 0x41100000#32
     let v249 := k0_pay26 v63 v217 cst v236 v248
     let v253 := k0_pay27 v63 v217 cst v236
     let v256 := k0_pay28 v63 v217 cst v236
     let v258 := k0_pay29 v63 v217 cst v236
     let v297 := k0_pay30 v249 v253 v256 v258 (W 0) (W 1)
     let v299 := k0_pay31 v253
     let v319 := k0_pay32 v297 v299 (W 2)
     let v340 := k0_pay33 v253 (W 3)
     let v363 := k0_pay34 v253 v319 v340 (W 4)
     let v381 := k0_pay35 v253
     let v407 := k0_pay36 v253 v363 v381 (W 5) (W 6)
     let v420 := k0_pay38 v253
     let v424 := k0_pay39 v253
     k0_pay40 v49 v407 v420 v424 (W 7)) (ix2 r f)
      = if h : f.val < 128 then v49 (ix2 r ⟨f.val, h⟩)
        else kanK (fun q => k0_pay25 v63 v217 (Scalar.ofBits .f32 0x41100000#32) v236 (ix2 r q)) (fun q => v248 (ix2 ⟨f.val - 128, by omega⟩ q)) (fun j q => W j (ix3 0 q ⟨f.val - 128, by omega⟩)) := by
  pointwise [k0_pay26, k0_pay27, k0_pay28, k0_pay29, k0_pay30, k0_pay31, k0_pay32, k0_pay33, k0_pay34, k0_pay35, k0_pay36, k0_pay37, k0_pay38, k0_pay39, k0_pay40]
  rfl

/-- The third spline layer of a block. -/
theorem layer3 (v49 v407 v420 v424 v426) (v439 : Vec Ideal S16x256 .f32) (W : Fin 8 → Vec Ideal S1x256x16 .f32) (r : Fin 1000) (f : Fin 16) :
    (let v440 := k0_pay41 v49 v407 v420 v424 v426 v439
     let v444 := k0_pay42 v49 v407 v420 v424 v426
     let v462 := k0_pay43 v49 v407 v420 v424 v426
     let v488 := k0_pay44 v440 v444 v462 (W 0) (W 1)
     let v506 := k0_pay45 v444
     let v532 := k0_pay46 v444 v488 v506 (W 2) (W 3)
     let v545 := k0_pay48 v444
     let v547 := k0_pay49 v444
     let v576 := k0_pay50 v444 v532 v545 v547 (W 4) (W 5)
     let v583 := k0_pay52 v444
     let v587 := k0_pay53 v444
     k0_pay54 v444 v576 v583 v587 (W 6) (W 7)) (ix2 r f)
      = kanK (fun q => k0_pay40 v49 v407 v420 v424 v426 (ix2 r q)) (fun q => v439 (ix2 f q)) (fun j q => W j (ix3 0 q f)) := by
  pointwise [k0_pay41, k0_pay42, k0_pay43, k0_pay44, k0_pay45, k0_pay46, k0_pay47, k0_pay48, k0_pay49, k0_pay50, k0_pay51, k0_pay52, k0_pay53, k0_pay54]
  rfl

/-- The fourth spline layer of a block. -/
theorem layer4 (v444 v576 v583 v587 v595 v617) (v629 : Vec Ideal S10x16 .f32) (W : Fin 8 → Vec Ideal S1x16x10 .f32) (r : Fin 1000) (f : Fin 10) :
    (let v620 := k0_pay54 v444 v576 v583 v587 v595 v617
     let v628 := k0_pay55 v444 v576 v583 v587 v595 v617
     let v634 := k0_pay56 v620
     let v656 := k0_pay57 v620 v628 v629 (W 0)
     let v667 := k0_pay59 v620
     let v669 := k0_pay60 v620
     let v700 := k0_pay61 v634 v656 v667 v669 (W 1) (W 2)
     let v707 := k0_pay63 v634
     let v709 := k0_pay64 v634
     let v744 := k0_pay65 v634 v700 v707 v709 (Scalar.ofBits .f32 0x00000000#32) (W 3) (W 4)
     let v747 := k0_pay66 v634
     let v751 := k0_pay67 v634
     let v788 := k0_pay68 v634 v744 v747 v751 (W 5) (W 6)
     let v791 := k0_pay69 v634
     let v792 := k0_pay70 (F := Ideal)
     k0_pay7 v788 v791 v792 (W 7)) (ix2 r f)
      = kanK (fun q => k0_pay54 v444 v576 v583 v587 v595 v617 (ix2 r q)) (fun q => v629 (ix2 f q)) (fun j q => W j (ix3 0 q f)) := by
  pointwise [k0_pay7, k0_pay55, k0_pay56, k0_pay57, k0_pay58, k0_pay59, k0_pay60, k0_pay61, k0_pay62, k0_pay63, k0_pay64, k0_pay65, k0_pay66, k0_pay67, k0_pay68, k0_pay69, k0_pay70]
  rfl

/-- The third phase's store at one row and one output feature: the four spline layers one after another. -/
theorem outOf_apply (v16 v17 v24 v30 v35 v42 v44 v58) (W1 : Fin 8 → Vec Ideal S1x512x32 .f32) (v248) (W2 : Fin 8 → Vec Ideal S1x32x128 .f32) (v439) (W3 : Fin 8 → Vec Ideal S1x256x16 .f32) (v629) (W4 : Fin 8 → Vec Ideal S1x16x10 .f32)
    (r : Fin 1000) (f : Fin 10) :
    outOf (F := Ideal) v16 v17 v24 v30 v35 v42 v44 v58 (W1 0) (W1 1) (W1 2) (W1 3) (W1 4) (W1 5) (W1 6) (W1 7) v248 (W2 0) (W2 1) (W2 2) (W2 3) (W2 4) (W2 5) (W2 6) (W2 7) v439 (W3 0) (W3 1) (W3 2) (W3 3) (W3 4) (W3 5) (W3 6) (W3 7) v629 (W4 0) (W4 1) (W4 2) (W4 3) (W4 4) (W4 5) (W4 6) (W4 7) (ix2 r f)
      = kanK (fun k => kanK (fun j => if h : j.val < 128 then k0_pay11 v16 v17 v24 v30 v35 v42 v44 (ix2 r ⟨j.val, h⟩)
              else kanK (fun i => kanK (fun q => k0_pay10 v16 v17 v24 v30 v35 (ix2 r q)) (fun q => v58 (ix2 i q)) (fun t q => W1 t (ix3 0 q i)))
                (fun q => v248 (ix2 ⟨j.val - 128, by omega⟩ q)) (fun t q => W2 t (ix3 0 q ⟨j.val - 128, by omega⟩)))
            (fun q => v439 (ix2 k q)) (fun t q => W3 t (ix3 0 q k)))
          (fun q => v629 (ix2 f q)) (fun t q => W4 t (ix3 0 q f)) := by
  unfold outOf
  refine (layer4 _ _ _ _ _ _ _ W4 r f).trans ?_
  refine congrArg (fun x => kanK x _ _) (funext fun k => ?_)
  refine (layer3 _ _ _ _ _ _ W3 r k).trans ?_
  refine congrArg (fun x => kanK x _ _) (funext fun j => ?_)
  refine (layer2 _ _ _ _ _ W2 r j).trans ?_
  split
  · rfl
  · refine congrArg (fun x => kanK x _ _) (funext fun i => ?_)
    exact layer1 _ _ _ _ _ _ W1 r i

end Cert.KernelIdeal.Layers
end
-- ==== Proof.KernelValue.lean ====
module
public import proofs.«01_k».proof.Proof.KernelLayers
@[expose] public section
noncomputable section
/-!
What the kernel leaves in its result array: every window's block read from the argument arrays, the two columns of
sums, and the third phase's blocks.
-/
namespace Cert.KernelIdeal.Value
open Cert.KernelIdeal Cert.KernelIdeal.Gen Cert.KernelIdeal.Run Cert.KernelIdeal.Body Cert.KernelIdeal.Layers Cert.Spec
open Idealize.ShloMosaic Idealize.ShloMosaic.TcCoe Idealize.SL.Sem
set_option maxRecDepth 16384

variable (m : (ℓ : Loc nD τ sig) → Buf (Elt Ideal) ℓ)

/-- The kernel's argument arrays on a core, read at their indices. -/
def args (c : Dev nD) : Args where
  x := fun i j => m ((c : Thread nD τ).loc main_arg0) (ix2 i j)
  W1 := fun i j => m ((c : Thread nD τ).loc main_arg3) (ix2 i j)
  b1 := fun i => m ((c : Thread nD τ).loc main_arg4) (ix1 i)
  g1 := fun i => m ((c : Thread nD τ).loc main_arg5) (ix1 i)
  be1 := fun i => m ((c : Thread nD τ).loc main_arg6) (ix1 i)
  W2 := fun i j => m ((c : Thread nD τ).loc main_arg7) (ix2 i j)
  b2 := fun i => m ((c : Thread nD τ).loc main_arg8) (ix1 i)
  g2 := fun i => m ((c : Thread nD τ).loc main_arg9) (ix1 i)
  be2 := fun i => m ((c : Thread nD τ).loc main_arg10) (ix1 i)
  fW := fun i j => m ((c : Thread nD τ).loc main_arg11) (ix2 i j)
  fb := fun i => m ((c : Thread nD τ).loc main_arg12) (ix1 i)
  k1b := fun i j => m ((c : Thread nD τ).loc main_arg13) (ix2 i j)
  k1w := fun i j k => m ((c : Thread nD τ).loc main_arg14) (ix3 i j k)
  k1s := fun i j => m ((c : Thread nD τ).loc main_arg15) (ix2 i j)
  k2b := fun i j => m ((c : Thread nD τ).loc main_arg16) (ix2 i j)
  k2w := fun i j k => m ((c : Thread nD τ).loc main_arg17) (ix3 i j k)
  k2s := fun i j => m ((c : Thread nD τ).loc main_arg18) (ix2 i j)
  k3b := fun i j => m ((c : Thread nD τ).loc main_arg19) (ix2 i j)
  k3w := fun i j k => m ((c : Thread nD τ).loc main_arg20) (ix3 i j k)
  k3s := fun i j => m ((c : Thread nD τ).loc main_arg21) (ix2 i j)
  k4b := fun i j => m ((c : Thread nD τ).loc main_arg22) (ix2 i j)
  k4w := fun i j k => m ((c : Thread nD τ).loc main_arg23) (ix3 i j k)
  k4s := fun i j => m ((c : Thread nD τ).loc main_arg24) (ix2 i j)

/-! ## The blocks -/

theorem iblk1 (c : Dev nD) (t : Fin cfg0.N) : iblk m c 1 t = V m c main_arg3 :=
  Memref.read_access_unit_zero (Elt Ideal) main_arg3 (funext fun a => by fin_cases a <;> exact Nat.zero_mul _) _ (V m c main_arg3)
/-- Input window 2's block is its whole array. -/
theorem iblk2 (c : Dev nD) (t : Fin cfg0.N) : iblk m c 2 t = V m c main_v35 :=
  Memref.read_access_unit_zero (Elt Ideal) main_v35 (funext fun a => by fin_cases a <;> exact Nat.zero_mul _) _ (V m c main_v35)
/-- Input window 3's block is its whole array. -/
theorem iblk3 (c : Dev nD) (t : Fin cfg0.N) : iblk m c 3 t = V m c main_v36 :=
  Memref.read_access_unit_zero (Elt Ideal) main_v36 (funext fun a => by fin_cases a <;> exact Nat.zero_mul _) _ (V m c main_v36)
/-- Input window 4's block is its whole array. -/
theorem iblk4 (c : Dev nD) (t : Fin cfg0.N) : iblk m c 4 t = V m c main_v37 :=
  Memref.read_access_unit_zero (Elt Ideal) main_v37 (funext fun a => by fin_cases a <;> exact Nat.zero_mul _) _ (V m c main_v37)
/-- Input window 5's block is its whole array. -/
theorem iblk5 (c : Dev nD) (t : Fin cfg0.N) : iblk m c 5 t = V m c main_arg7 :=
  Memref.read_access_unit_zero (Elt Ideal) main_arg7 (funext fun a => by fin_cases a <;> exact Nat.zero_mul _) _ (V m c main_arg7)
/-- Input window 6's block is its whole array. -/
theorem iblk6 (c : Dev nD) (t : Fin cfg0.N) : iblk m c 6 t = V m c main_v38 :=
  Memref.read_access_unit_zero (Elt Ideal) main_v38 (funext fun a => by fin_cases a <;> exact Nat.zero_mul _) _ (V m c main_v38)
/-- Input window 7's block is its whole array. -/
theorem iblk7 (c : Dev nD) (t : Fin cfg0.N) : iblk m c 7 t = V m c main_v39 :=
  Memref.read_access_unit_zero (Elt Ideal) main_v39 (funext fun a => by fin_cases a <;> exact Nat.zero_mul _) _ (V m c main_v39)
/-- Input window 8's block is its whole array. -/
theorem iblk8 (c : Dev nD) (t : Fin cfg0.N) : iblk m c 8 t = V m c main_v40 :=
  Memref.read_access_unit_zero (Elt Ideal) main_v40 (funext fun a => by fin_cases a <;> exact Nat.zero_mul _) _ (V m c main_v40)
/-- Input window 9's block is its whole array. -/
theorem iblk9 (c : Dev nD) (t : Fin cfg0.N) : iblk m c 9 t = V m c main_arg11 :=
  Memref.read_access_unit_zero (Elt Ideal) main_arg11 (funext fun a => by fin_cases a <;> exact Nat.zero_mul _) _ (V m c main_arg11)
/-- Input window 10's block is its whole array. -/
theorem iblk10 (c : Dev nD) (t : Fin cfg0.N) : iblk m c 10 t = V m c main_v41 :=
  Memref.read_access_unit_zero (Elt Ideal) main_v41 (funext fun a => by fin_cases a <;> exact Nat.zero_mul _) _ (V m c main_v41)
/-- Input window 11's block is its whole array. -/
theorem iblk11 (c : Dev nD) (t : Fin cfg0.N) : iblk m c 11 t = V m c main_arg13 :=
  Memref.read_access_unit_zero (Elt Ideal) main_arg13 (funext fun a => by fin_cases a <;> exact Nat.zero_mul _) _ (V m c main_arg13)
/-- Input window 12's block is its whole array. -/
theorem iblk12 (c : Dev nD) (t : Fin cfg0.N) : iblk m c 12 t = V m c main_v6 :=
  Memref.read_access_unit_zero (Elt Ideal) main_v6 (funext fun a => by fin_cases a <;> exact Nat.zero_mul _) _ (V m c main_v6)
/-- Input window 13's block is its whole array. -/
theorem iblk13 (c : Dev nD) (t : Fin cfg0.N) : iblk m c 13 t = V m c main_arg16 :=
  Memref.read_access_unit_zero (Elt Ideal) main_arg16 (funext fun a => by fin_cases a <;> exact Nat.zero_mul _) _ (V m c main_arg16)
/-- Input window 14's block is its whole array. -/
theorem iblk14 (c : Dev nD) (t : Fin cfg0.N) : iblk m c 14 t = V m c main_v13 :=
  Memref.read_access_unit_zero (Elt Ideal) main_v13 (funext fun a => by fin_cases a <;> exact Nat.zero_mul _) _ (V m c main_v13)
/-- Input window 15's block is its whole array. -/
theorem iblk15 (c : Dev nD) (t : Fin cfg0.N) : iblk m c 15 t = V m c main_arg19 :=
  Memref.read_access_unit_zero (Elt Ideal) main_arg19 (funext fun a => by fin_cases a <;> exact Nat.zero_mul _) _ (V m c main_arg19)
/-- Input window 16's block is its whole array. -/
theorem iblk16 (c : Dev nD) (t : Fin cfg0.N) : iblk m c 16 t = V m c main_v20 :=
  Memref.read_access_unit_zero (Elt Ideal) main_v20 (funext fun a => by fin_cases a <;> exact Nat.zero_mul _) _ (V m c main_v20)
/-- Input window 17's block is its whole array. -/
theorem iblk17 (c : Dev nD) (t : Fin cfg0.N) : iblk m c 17 t = V m c main_arg22 :=
  Memref.read_access_unit_zero (Elt Ideal) main_arg22 (funext fun a => by fin_cases a <;> exact Nat.zero_mul _) _ (V m c main_arg22)
/-- Input window 18's block is its whole array. -/
theorem iblk18 (c : Dev nD) (t : Fin cfg0.N) : iblk m c 18 t = V m c main_v27 :=
  Memref.read_access_unit_zero (Elt Ideal) main_v27 (funext fun a => by fin_cases a <;> exact Nat.zero_mul _) _ (V m c main_v27)

/-- Row `x` of block `k`. -/
def rowOf (k : ℕ) (x : Fin 1000) : Fin 10000 := ⟨1000 * (k % 10) + x.val, by have := x.isLt; omega⟩

/-- In the first phase the features' window is at the block of the point's number. -/
theorem index0 : ∀ t : Fin cfg0.N, t.val < 10 → win0_0.index t 0 = t.val ∧ win0_0.index t 1 = 0 :=
  (by decide +kernel : ∀ t : Fin grid0.N, t.val < 10 → win0_0.index t 0 = t.val ∧ win0_0.index t 1 = 0)

/-- Block `k` of the features holds the rows from `1000 k`. -/
theorem iblk0 (c : Dev nD) (k : ℕ) (hk : k < 10) (x : Fin 1000) (q : Fin 128) :
    (iblk m c 0 (pt k) : Vec Ideal S1000x128 .f32) (ix2 x q) = (args m c).x (rowOf k x) q := by
  have ht : (pt k).val = k := Nat.mod_eq_of_lt (by omega)
  obtain ⟨e0, e1⟩ := index0 (pt k) (by omega)
  have hv : V m c main_arg0 = m ((c : Thread nD τ).loc main_arg0) := V_main_arg0 m c
  show V m c main_arg0 (((cfg0.win 0).blk (pt k)).view.emb (ix2 x q)) = m ((c : Thread nD τ).loc main_arg0) (ix2 (rowOf k x) q)
  rw [hv]
  congr 1
  funext a
  apply Fin.ext
  match a with
  | ⟨0, _⟩ => show win0_0.index (pt k) 0 * 1000 + 1 * x.val = 1000 * (k % 10) + x.val; rw [e0, ht]; omega
  | ⟨1, _⟩ => show win0_0.index (pt k) 1 * 128 + 1 * q.val = q.val; rw [e1]; omega

/-! ## The arrays computed before the region -/

theorem at_v35 (c : Dev nD) (o : Fin 512) : (V m c main_v35 : Vec Ideal S1x512 .f32) (ix2 0 o) = (args m c).b1 o := by
  entry_read
  pointwise
  rfl
/-- The kernel's prepared array 36, entry by entry, in the arguments. -/
theorem at_v36 (c : Dev nD) (o : Fin 512) : (V m c main_v36 : Vec Ideal S1x512 .f32) (ix2 0 o) = (args m c).g1 o := by
  entry_read
  pointwise
  rfl
/-- The kernel's prepared array 37, entry by entry, in the arguments. -/
theorem at_v37 (c : Dev nD) (o : Fin 512) : (V m c main_v37 : Vec Ideal S1x512 .f32) (ix2 0 o) = (args m c).be1 o := by
  entry_read
  pointwise
  rfl
/-- The kernel's prepared array 38, entry by entry, in the arguments. -/
theorem at_v38 (c : Dev nD) (o : Fin 512) : (V m c main_v38 : Vec Ideal S1x512 .f32) (ix2 0 o) = (args m c).b2 o := by
  entry_read
  pointwise
  rfl
/-- The kernel's prepared array 39, entry by entry, in the arguments. -/
theorem at_v39 (c : Dev nD) (o : Fin 512) : (V m c main_v39 : Vec Ideal S1x512 .f32) (ix2 0 o) = (args m c).g2 o := by
  entry_read
  pointwise
  rfl
/-- The kernel's prepared array 40, entry by entry, in the arguments. -/
theorem at_v40 (c : Dev nD) (o : Fin 512) : (V m c main_v40 : Vec Ideal S1x512 .f32) (ix2 0 o) = (args m c).be2 o := by
  entry_read
  pointwise
  rfl
/-- The kernel's prepared array 41, entry by entry, in the arguments. -/
theorem at_v41 (c : Dev nD) (o : Fin 128) : (V m c main_v41 : Vec Ideal S1x128 .f32) (ix2 0 o) = (args m c).fb o := by
  entry_read
  pointwise
  rfl
/-- The kernel's prepared array 6, entry by entry, in the arguments. -/
theorem at_v6 (c : Dev nD) (j : Fin 8) (i : Fin 512) (o : Fin 32) : (V m c main_v6 : Vec Ideal S8x512x32 .f32) (ix3 j i o)
    = (args m c).k1w o i j * ((args m c).k1s o i * Ideal.div 1 (Ideal.ofBits FTy.f32 1086324736#32)) := by
  entry_read
  pointwise
  rfl
/-- The kernel's prepared array 13, entry by entry, in the arguments. -/
theorem at_v13 (c : Dev nD) (j : Fin 8) (i : Fin 32) (o : Fin 128) : (V m c main_v13 : Vec Ideal S8x32x128 .f32) (ix3 j i o)
    = (args m c).k2w o i j * ((args m c).k2s o i * Ideal.div 1 (Ideal.ofBits FTy.f32 1086324736#32)) := by
  entry_read
  pointwise
  rfl
/-- The kernel's prepared array 20, entry by entry, in the arguments. -/
theorem at_v20 (c : Dev nD) (j : Fin 8) (i : Fin 256) (o : Fin 16) : (V m c main_v20 : Vec Ideal S8x256x16 .f32) (ix3 j i o)
    = (args m c).k3w o i j * ((args m c).k3s o i * Ideal.div 1 (Ideal.ofBits FTy.f32 1086324736#32)) := by
  entry_read
  pointwise
  rfl
/-- The kernel's prepared array 27, entry by entry, in the arguments. -/
theorem at_v27 (c : Dev nD) (j : Fin 8) (i : Fin 16) (o : Fin 10) : (V m c main_v27 : Vec Ideal S8x16x10 .f32) (ix3 j i o)
    = (args m c).k4w o i j * ((args m c).k4s o i * Ideal.div 1 (Ideal.ofBits FTy.f32 1086324736#32)) := by
  entry_read
  pointwise
  rfl

end Cert.KernelIdeal.Value
end
-- ==== Proof.KernelNet.lean ====
module
public import proofs.«01_k».proof.Proof.KernelValue
@[expose] public section
noncomputable section
/-!
The kernel's phases as functions of the argument arrays: the columns of sums are sums over all rows, and the third
phase's blocks are the network's rows.
-/
namespace Cert.KernelIdeal.Value
open Cert.KernelIdeal Cert.KernelIdeal.Gen Cert.KernelIdeal.Run Cert.KernelIdeal.Body Cert.KernelIdeal.Layers Cert.Spec
open Idealize.ShloMosaic Idealize.ShloMosaic.TcCoe Idealize.SL.Sem
set_option maxRecDepth 16384

variable (m : (ℓ : Loc nD τ sig) → Buf (Elt Ideal) ℓ)

/-- A sum over ten blocks of a thousand rows is the sum over all rows. -/
theorem sum_rows (g : Fin 10000 → EReal) : ∑ k ∈ Finset.range 10, ∑ x : Fin 1000, g (rowOf k x) = ∑ r, g r := by
  rw [Finset.sum_range, ← Fintype.sum_prod_type']
  refine Fintype.sum_equiv (finProdFinEquiv (m := 10) (n := 1000)) _ _ fun p => congrArg g (Fin.ext ?_)
  show 1000 * (p.1.val % 10) + p.2.val = p.2.val + 1000 * p.1.val
  have := p.1.isLt
  omega

/-! ## The readings of the payloads -/

theorem pay4_at (a : Vec Ideal S1000x128 .f32) (b : Vec Ideal S512x128 .f32) (d : Vec Ideal S1x512 .f32) (x : Fin 1000) (f : Fin 512) :
    k0_pay4 a b d (ix2 x f) = lin (fun q => a (ix2 x q)) (fun q => b (ix2 f q)) (d (ix2 0 f)) := by
  pointwise [k0_pay4, k0_pay3]
  rfl

/-- The second layer's block, entry by entry. -/
theorem pay9_at (s q g b : Vec Ideal S1x512 .f32) (h : Vec Ideal S1000x512 .f32) (w : Vec Ideal S512x512 .f32) (d : Vec Ideal S1x512 .f32) (x : Fin 1000) (f : Fin 512) :
    k0_pay9 s q g b h w d (ix2 x f)
      = lin (fun i => bnK (s (ix2 0 i)) (q (ix2 0 i)) (g (ix2 0 i)) (b (ix2 0 i)) (h (ix2 x i))) (fun i => w (ix2 f i)) (d (ix2 0 f)) := by
  pointwise [k0_pay9, k0_pay8]
  rfl

/-- The normalised second layer, entry by entry. -/
theorem pay10_at (s q g b : Vec Ideal S1x512 .f32) (h : Vec Ideal S1000x512 .f32) (x : Fin 1000) (f : Fin 512) :
    k0_pay10 s q g b h (ix2 x f) = bnK (s (ix2 0 f)) (q (ix2 0 f)) (g (ix2 0 f)) (b (ix2 0 f)) (h (ix2 x f)) := by
  pointwise [k0_pay10]
  rfl

/-- The linear branch on a block, entry by entry. -/
theorem pay11_at (s q g b : Vec Ideal S1x512 .f32) (h : Vec Ideal S1000x512 .f32) (w : Vec Ideal S128x512 .f32) (d : Vec Ideal S1x128 .f32) (x : Fin 1000) (f : Fin 128) :
    k0_pay11 s q g b h w d (ix2 x f) = max (lin (fun i => k0_pay10 s q g b h (ix2 x i)) (fun i => w (ix2 f i)) (d (ix2 0 f))) 0 := by
  pointwise [k0_pay11]
  rfl

/-- The first layer's step adds the block's column sums to row 0. -/
theorem pay5_row0 (a : Vec Ideal S1000x128 .f32) (b : Vec Ideal S512x128 .f32) (d : Vec Ideal S1x512 .f32) (t : Vec Ideal S8x512 .f32) (f : Fin 512) :
    stRow0 (k0_pay5 a b d t) (ix2 0 f) = stRow0 t (ix2 0 f) + ∑ x : Fin 1000, k0_pay4 a b d (ix2 x f) := by
  pointwise [stRow0, k0_pay5, k0_pay4]
/-- The first layer's step adds the block's column sums of squares to row 1. -/
theorem pay5_row1 (a : Vec Ideal S1000x128 .f32) (b : Vec Ideal S512x128 .f32) (d : Vec Ideal S1x512 .f32) (t : Vec Ideal S8x512 .f32) (f : Fin 512) :
    stRow1 (k0_pay5 a b d t) (ix2 0 f) = stRow1 t (ix2 0 f) + ∑ x : Fin 1000, k0_pay4 a b d (ix2 x f) * k0_pay4 a b d (ix2 x f) := by
  pointwise [stRow1, k0_pay5, k0_pay4]
/-- The second layer's step adds the block's column sums to row 0. -/
theorem pay6_row0 (h : Vec Ideal S1000x512 .f32) (t : Vec Ideal S8x512 .f32) (f : Fin 512) :
    stRow0 (k0_pay6 h t) (ix2 0 f) = stRow0 t (ix2 0 f) + ∑ x : Fin 1000, h (ix2 x f) := by
  pointwise [stRow0, k0_pay6]
/-- The second layer's step adds the block's column sums of squares to row 1. -/
theorem pay6_row1 (h : Vec Ideal S1000x512 .f32) (t : Vec Ideal S8x512 .f32) (f : Fin 512) :
    stRow1 (k0_pay6 h t) (ix2 0 f) = stRow1 t (ix2 0 f) + ∑ x : Fin 1000, h (ix2 x f) * h (ix2 x f) := by
  pointwise [stRow1, k0_pay6]
/-- Row 0 of the sums starts at zero. -/
theorem zero_row0 (f : Fin 512) : stRow0 (F := Ideal) (k0_pay1 (F := Ideal)) (ix2 0 f) = 0 ∧ stRow0 (F := Ideal) (k0_pay2 (F := Ideal)) (ix2 0 f) = 0 := by
  constructor <;> pointwise [stRow0, k0_pay1, k0_pay2]
/-- Row 1 of the sums starts at zero. -/
theorem zero_row1 (f : Fin 512) : stRow1 (F := Ideal) (k0_pay1 (F := Ideal)) (ix2 0 f) = 0 ∧ stRow1 (F := Ideal) (k0_pay2 (F := Ideal)) (ix2 0 f) = 0 := by
  constructor <;> pointwise [stRow1, k0_pay1, k0_pay2]

/-! ## The first layer and its sums -/

/-- A block of the first layer holds the first linear layer at its rows. -/
theorem H1_eq (c : Dev nD) (k : ℕ) (hk : k < 10) (x : Fin 1000) (f : Fin 512) : H1 m c k (ix2 x f) = h1 (args m c) (rowOf k x) f := by
  unfold H1
  rw [pay4_at]
  simp only [iblk0 m c k hk, iblk1, iblk2]
  rw [at_v35, V_main_arg3]
  rfl

/-- The first layer's sums after `n` blocks, block by block. -/
theorem ST1_rows (c : Dev nD) (f : Fin 512) (n : ℕ) :
    stRow0 (ST1 m c n) (ix2 0 f) = ∑ k ∈ Finset.range n, ∑ x : Fin 1000, H1 m c k (ix2 x f)
    ∧ stRow1 (ST1 m c n) (ix2 0 f) = ∑ k ∈ Finset.range n, ∑ x : Fin 1000, H1 m c k (ix2 x f) * H1 m c k (ix2 x f) := by
  induction n with
  | zero => exact ⟨(zero_row0 f).1, (zero_row1 f).1⟩
  | succ n ih =>
    rw [Finset.sum_range_succ, Finset.sum_range_succ, ← ih.1, ← ih.2, ST1]
    exact ⟨pay5_row0 _ _ _ _ f, pay5_row1 _ _ _ _ f⟩

/-- After ten blocks the two rows hold each column's sum and sum of squares. -/
theorem ST1_sum (c : Dev nD) (f : Fin 512) :
    stRow0 (ST1 m c 10) (ix2 0 f) = ∑ r, h1 (args m c) r f
    ∧ stRow1 (ST1 m c 10) (ix2 0 f) = ∑ r, h1 (args m c) r f * h1 (args m c) r f := by
  obtain ⟨e0, e1⟩ := ST1_rows m c f 10
  rw [e0, e1, ← sum_rows, ← sum_rows (fun r => h1 (args m c) r f * h1 (args m c) r f)]
  constructor <;> refine Finset.sum_congr rfl fun k hk => Finset.sum_congr rfl fun x _ => ?_ <;>
    rw [H1_eq m c k (Finset.mem_range.mp hk)]

/-! ## The second layer and its sums -/

/-- The second layer's block is the network's, where its inputs are what the arguments say. -/
theorem h2_of (A : Args) (r : Fin 10000) (x : Fin 1000) (f : Fin 512) (s q g b : Vec Ideal S1x512 .f32) (h : Vec Ideal S1000x512 .f32) (w : Vec Ideal S512x512 .f32) (d : Vec Ideal S1x512 .f32)
    (hs : ∀ i, s (ix2 0 i) = ∑ r, h1 A r i) (hq : ∀ i, q (ix2 0 i) = ∑ r, h1 A r i * h1 A r i) (hg : ∀ i, g (ix2 0 i) = A.g1 i) (hb : ∀ i, b (ix2 0 i) = A.be1 i)
    (hh : ∀ i, h (ix2 x i) = h1 A r i) (hw : ∀ i, w (ix2 f i) = A.W2 f i) (hd : d (ix2 0 f) = A.b2 f) :
    k0_pay9 s q g b h w d (ix2 x f) = h2 normK A r f := by
  rw [pay9_at]
  simp only [hs, hq, hg, hb, hh, hw, hd]
  rfl

/-- A block of the second layer holds the network's second linear layer at its rows. -/
theorem H2_eq (c : Dev nD) (k : ℕ) (hk : k < 10) (x : Fin 1000) (f : Fin 512) : H2 m c k (ix2 x f) = h2 normK (args m c) (rowOf k x) f :=
  h2_of (args m c) (rowOf k x) x f _ _ _ _ _ _ _ (fun i => (ST1_sum m c i).1) (fun i => (ST1_sum m c i).2)
    (fun i => (congrFun (iblk3 m c _) _).trans (at_v36 m c i)) (fun i => (congrFun (iblk4 m c _) _).trans (at_v37 m c i)) (fun i => H1_eq m c k hk x i)
    (fun i => (congrFun (iblk5 m c _) _).trans (congrFun (V_main_arg7 m c) _)) ((congrFun (iblk6 m c _) _).trans (at_v38 m c f))

/-- The second layer's sums after `n` blocks, block by block. -/
theorem ST2_rows (c : Dev nD) (f : Fin 512) (n : ℕ) :
    stRow0 (ST2 m c n) (ix2 0 f) = ∑ k ∈ Finset.range n, ∑ x : Fin 1000, H2 m c k (ix2 x f)
    ∧ stRow1 (ST2 m c n) (ix2 0 f) = ∑ k ∈ Finset.range n, ∑ x : Fin 1000, H2 m c k (ix2 x f) * H2 m c k (ix2 x f) := by
  have e : ∀ k (x : Fin 1000), k0_pay8 (stRow0 (ST1 m c 10)) (stRow1 (ST1 m c 10)) (iblk m c 3 (pt (10 + k))) (iblk m c 4 (pt (10 + k))) (H1 m c k) (iblk m c 5 (pt (10 + k))) (iblk m c 6 (pt (10 + k))) (ix2 x f)
      = H2 m c k (ix2 x f) := fun k x => by
    unfold H2
    pointwise [k0_pay9]
  induction n with
  | zero => exact ⟨(zero_row0 f).2, (zero_row1 f).2⟩
  | succ n ih =>
    rw [Finset.sum_range_succ, Finset.sum_range_succ, ← ih.1, ← ih.2, ST2]
    simp only [← e]
    exact ⟨pay6_row0 _ _ f, pay6_row1 _ _ f⟩

/-- The second layer's sums after ten blocks are the sums over all rows. -/
theorem ST2_sum (c : Dev nD) (f : Fin 512) :
    stRow0 (ST2 m c 10) (ix2 0 f) = ∑ r, h2 normK (args m c) r f
    ∧ stRow1 (ST2 m c 10) (ix2 0 f) = ∑ r, h2 normK (args m c) r f * h2 normK (args m c) r f := by
  obtain ⟨e0, e1⟩ := ST2_rows m c f 10
  rw [e0, e1, ← sum_rows, ← sum_rows (fun r => h2 normK (args m c) r f * h2 normK (args m c) r f)]
  constructor <;> refine Finset.sum_congr rfl fun k hk => Finset.sum_congr rfl fun x _ => ?_ <;>
    rw [H2_eq m c k (Finset.mem_range.mp hk)]

/-! ## The third phase -/

theorem outPay_apply (h : Vec Ideal S1000x512 .f32) (x24 : Vec Ideal S8x512 .f32) (x8 x9 : Vec Ideal S1x512 .f32) (x10 : Vec Ideal S128x512 .f32) (x11 : Vec Ideal S1x128 .f32)
    (x12 : Vec Ideal S32x512 .f32) (x13 : Vec Ideal S8x512x32 .f32) (x14 : Vec Ideal S128x32 .f32) (x15 : Vec Ideal S8x32x128 .f32) (x16 : Vec Ideal S16x256 .f32) (x17 : Vec Ideal S8x256x16 .f32)
    (x18 : Vec Ideal S10x16 .f32) (x19 : Vec Ideal S8x16x10 .f32) (r : Fin 1000) (f : Fin 10) :
    outPay h x24 x8 x9 x10 x11 x12 x13 x14 x15 x16 x17 x18 x19 (ix2 r f)
      = kanK (fun k => kanK (fun j => if h' : j.val < 128 then k0_pay11 (stRow0 x24) (stRow1 x24) x8 x9 h x10 x11 (ix2 r ⟨j.val, h'⟩)
              else kanK (fun i => kanK (fun q => k0_pay10 (stRow0 x24) (stRow1 x24) x8 x9 h (ix2 r q)) (fun q => x12 (ix2 i q)) (fun t q => x13 (ix3 t q i)))
                (fun q => x14 (ix2 ⟨j.val - 128, by omega⟩ q)) (fun t q => x15 (ix3 t q ⟨j.val - 128, by omega⟩)))
            (fun q => x16 (ix2 k q)) (fun t q => x17 (ix3 t q k)))
          (fun q => x18 (ix2 f q)) (fun t q => x19 (ix3 t q f)) := by
  unfold outPay
  refine (outOf_apply _ _ _ _ _ _ _ _
    (fun t => View.ld x13 (Rect.unit (s := S8x512x32) ![t.val, 0, 0] S1x512x32.size (by intro a; fin_cases t <;> fin_cases a <;> decide))) _
    (fun t => View.ld x15 (Rect.unit (s := S8x32x128) ![t.val, 0, 0] S1x32x128.size (by intro a; fin_cases t <;> fin_cases a <;> decide))) _
    (fun t => View.ld x17 (Rect.unit (s := S8x256x16) ![t.val, 0, 0] S1x256x16.size (by intro a; fin_cases t <;> fin_cases a <;> decide))) _
    (fun t => View.ld x19 (Rect.unit (s := S8x16x10) ![t.val, 0, 0] S1x16x10.size (by intro a; fin_cases t <;> fin_cases a <;> decide))) r f).trans ?_
  have e13 : ∀ (t : Fin 8) (q : Fin 512) (i : Fin 32) inb, View.ld x13 (Rect.unit (s := S8x512x32) ![t.val, 0, 0] S1x512x32.size inb) (ix3 0 q i) = x13 (ix3 t q i) := fun t q i inb => by
    fin_cases t <;> pointwise
  have e15 : ∀ (t : Fin 8) (q : Fin 32) (i : Fin 128) inb, View.ld x15 (Rect.unit (s := S8x32x128) ![t.val, 0, 0] S1x32x128.size inb) (ix3 0 q i) = x15 (ix3 t q i) := fun t q i inb => by
    fin_cases t <;> pointwise
  have e17 : ∀ (t : Fin 8) (q : Fin 256) (i : Fin 16) inb, View.ld x17 (Rect.unit (s := S8x256x16) ![t.val, 0, 0] S1x256x16.size inb) (ix3 0 q i) = x17 (ix3 t q i) := fun t q i inb => by
    fin_cases t <;> pointwise
  have e19 : ∀ (t : Fin 8) (q : Fin 16) (i : Fin 10) inb, View.ld x19 (Rect.unit (s := S8x16x10) ![t.val, 0, 0] S1x16x10.size inb) (ix3 0 q i) = x19 (ix3 t q i) := fun t q i inb => by
    fin_cases t <;> pointwise
  simp only [e13, e15, e17, e19]

/-- The third phase's block is the network at its row, where its inputs are what the network's arguments say. -/
theorem net_of (A : Args) (r : Fin 10000) (x : Fin 1000) (f : Fin 10) (h : Vec Ideal S1000x512 .f32) (x24 : Vec Ideal S8x512 .f32) (x8 x9 : Vec Ideal S1x512 .f32) (x10 : Vec Ideal S128x512 .f32) (x11 : Vec Ideal S1x128 .f32)
    (x12 : Vec Ideal S32x512 .f32) (x13 : Vec Ideal S8x512x32 .f32) (x14 : Vec Ideal S128x32 .f32) (x15 : Vec Ideal S8x32x128 .f32) (x16 : Vec Ideal S16x256 .f32) (x17 : Vec Ideal S8x256x16 .f32)
    (x18 : Vec Ideal S10x16 .f32) (x19 : Vec Ideal S8x16x10 .f32)
    (hh : ∀ i, h (ix2 x i) = h2 normK A r i) (hs : ∀ i, stRow0 x24 (ix2 0 i) = ∑ r, h2 normK A r i) (hq : ∀ i, stRow1 x24 (ix2 0 i) = ∑ r, h2 normK A r i * h2 normK A r i)
    (hg : ∀ i, x8 (ix2 0 i) = A.g2 i) (hb : ∀ i, x9 (ix2 0 i) = A.be2 i) (h10 : ∀ o i, x10 (ix2 o i) = A.fW o i) (h11 : ∀ o, x11 (ix2 0 o) = A.fb o)
    (h12 : ∀ o i, x12 (ix2 o i) = A.k1b o i) (h13 : ∀ j i o, x13 (ix3 j i o) = A.k1w o i j * (A.k1s o i * Ideal.div 1 (Ideal.ofBits FTy.f32 1086324736#32)))
    (h14 : ∀ o i, x14 (ix2 o i) = A.k2b o i) (h15 : ∀ j i o, x15 (ix3 j i o) = A.k2w o i j * (A.k2s o i * Ideal.div 1 (Ideal.ofBits FTy.f32 1086324736#32)))
    (h16 : ∀ o i, x16 (ix2 o i) = A.k3b o i) (h17 : ∀ j i o, x17 (ix3 j i o) = A.k3w o i j * (A.k3s o i * Ideal.div 1 (Ideal.ofBits FTy.f32 1086324736#32)))
    (h18 : ∀ o i, x18 (ix2 o i) = A.k4b o i) (h19 : ∀ j i o, x19 (ix3 j i o) = A.k4w o i j * (A.k4s o i * Ideal.div 1 (Ideal.ofBits FTy.f32 1086324736#32))) :
    outPay h x24 x8 x9 x10 x11 x12 x13 x14 x15 x16 x17 x18 x19 (ix2 x f) = net normK layerK A r f := by
  rw [outPay_apply]
  simp only [pay11_at, pay10_at, hh, hs, hq, hg, hb, h10, h11, h12, h13, h14, h15, h16, h17, h18, h19]
  rfl

/-- The output block of a point of the third phase is the network at the block's rows. -/
theorem OUT_eq (c : Dev nD) (t : Fin cfg0.N) (x : Fin 1000) (f : Fin 10) :
    OUT m c t (ix2 x f) = net normK layerK (args m c) (rowOf t.val x) f := by
  have hr : rowOf (t.val % 10) x = rowOf t.val x := Fin.ext (by show 1000 * (t.val % 10 % 10) + x.val = 1000 * (t.val % 10) + x.val; omega)
  exact net_of (args m c) (rowOf t.val x) x f _ _ _ _ _ _ _ _ _ _ _ _ _ _
    (fun i => (H2_eq m c _ (Nat.mod_lt _ (by decide)) x i).trans (by rw [hr])) (fun i => (ST2_sum m c i).1) (fun i => (ST2_sum m c i).2)
    (fun i => (congrFun (iblk7 m c t) _).trans (at_v39 m c i)) (fun i => (congrFun (iblk8 m c t) _).trans (at_v40 m c i))
    (fun o i => (congrFun (iblk9 m c t) _).trans (congrFun (V_main_arg11 m c) _)) (fun o => (congrFun (iblk10 m c t) _).trans (at_v41 m c o))
    (fun o i => (congrFun (iblk11 m c t) _).trans (congrFun (V_main_arg13 m c) _)) (fun j i o => (congrFun (iblk12 m c t) _).trans (at_v6 m c j i o))
    (fun o i => (congrFun (iblk13 m c t) _).trans (congrFun (V_main_arg16 m c) _)) (fun j i o => (congrFun (iblk14 m c t) _).trans (at_v13 m c j i o))
    (fun o i => (congrFun (iblk15 m c t) _).trans (congrFun (V_main_arg19 m c) _)) (fun j i o => (congrFun (iblk16 m c t) _).trans (at_v20 m c j i o))
    (fun o i => (congrFun (iblk17 m c t) _).trans (congrFun (V_main_arg22 m c) _)) (fun j i o => (congrFun (iblk18 m c t) _).trans (at_v27 m c j i o))

/-! ## The result array -/

/-- The network at every row, as the kernel computes it. -/
def result (c : Dev nD) : Buf (Elt Ideal) ((c : Thread nD τ).loc main_v42) :=
  fun y : S10000x10.Idx => net normK layerK (args m c) (y 0) (y 1)

/-- The output is written back in the third phase and only there. -/
theorem flush19 : ∀ t : Fin cfg0.N, (cfg0.win 19).flush t = true ↔ 20 ≤ t.val :=
  (by decide +kernel : ∀ t : Fin cfg0.N, (cfg0.win 19).flush t = true ↔ 20 ≤ t.val)

/-- In the third phase the output window is at the block of the point's number within the phase. -/
theorem index19 : ∀ t : Fin cfg0.N, 20 ≤ t.val → win0_19.index t 0 = t.val % 10 ∧ win0_19.index t 1 = 0 :=
  (by decide +kernel : ∀ t : Fin grid0.N, 20 ≤ t.val → win0_19.index t 0 = t.val % 10 ∧ win0_19.index t 1 = 0)

/-- Where an entry of the output's block lies in the result array. -/
theorem emb19 (t : Fin cfg0.N) (ht : 20 ≤ t.val) (j : S1000x10.Idx) : ((cfg0.win 19).blk t).view.emb j = ix2 (rowOf t.val (j 0)) (j 1) := by
  obtain ⟨e0, e1⟩ := index19 t ht
  funext a
  apply Fin.ext
  match a with
  | ⟨0, _⟩ => show win0_19.index t 0 * 1000 + 1 * (j 0).val = 1000 * (t.val % 10) + (j 0).val; rw [e0]; omega
  | ⟨1, _⟩ => show win0_19.index t 1 * 10 + 1 * (j 1).val = (j 1).val; rw [e1]; omega

/-- What a point of the third phase writes back is its part of the network's result. -/
theorem flushed_eq (c : Dev nD) (t : Fin cfg0.N) (hf : (cfg0.win 19).flush t = true) :
    (dats m 0 c).flushed 19 t = ((cfg0.win 19).blk t).view.read (Elt Ideal) (result m c) := by
  have ht := (flush19 t).mp hf
  show (cfg0.win 19).cut (grid0.coords t) ((dats m 0 c).after 19 t) = _
  rw [after19]
  funext j
  show OUT m c t j = result m c (((cfg0.win 19).blk t).view.emb j)
  rw [emb19 t ht]
  exact (congrArg (OUT m c t) (eq_ix2 j)).trans (OUT_eq m c t (j 0) (j 1))

/-- Every entry of the result array is written back by a point of the third phase. -/
theorem covered (i : S10000x10.Idx) : ∃ t : Fin cfg0.N, (cfg0.win 19).flush t = true ∧ i ∈ ((cfg0.win 19).blk t).view.set := by
  have h0 : (i 0).val < 10000 := (i 0).isLt
  have hN : cfg0.N = 30 := N_0
  obtain ⟨t, ht⟩ : ∃ t : Fin cfg0.N, t.val = 20 + (i 0).val / 1000 := ⟨⟨20 + (i 0).val / 1000, by omega⟩, rfl⟩
  have h20 : 20 ≤ t.val := by omega
  refine ⟨t, (flush19 t).mpr h20, ?_⟩
  have h := ((cfg0.win 19).blk t).view.emb_mem_set (ix2 (⟨(i 0).val % 1000, by omega⟩ : Fin 1000) (i 1) : S1000x10.Idx)
  have e : ((cfg0.win 19).blk t).view.emb (ix2 (⟨(i 0).val % 1000, by omega⟩ : Fin 1000) (i 1) : S1000x10.Idx) = i := by
    refine (emb19 t h20 _).trans ?_
    funext a
    apply Fin.ext
    match a with
    | ⟨0, _⟩ => show 1000 * (t.val % 10) + (i 0).val % 1000 = (i 0).val; omega
    | ⟨1, _⟩ => rfl
  exact e ▸ h

/-- The result array ends as the network at every row. -/
theorem final_out (c : Dev nD) : (dats m 0 c).arrAt 19 cfg0.N = result m c :=
  (dats m 0 c).arrAt_eq_of_cover 19 (result m c) (flushed_eq m c) covered

end Cert.KernelIdeal.Value
end
-- ==== Proof.RefLayers.lean ====
module
public import proofs.«01_k».proof.Proof.Spec
public import proofs.«01_k».proof.Proof.Gen.ReferenceIdeal.Read
@[expose] public section
noncomputable section
/-!
The four spline layers of the reference, read at one row and one output feature.
-/
namespace Cert.ReferenceIdeal.Layers
open Cert.ReferenceIdeal Cert.ReferenceIdeal.Gen Cert.ReferenceIdeal.Read Cert.Spec Idealize.ShloMosaic Idealize.ShloMosaic.TcCoe Idealize.SL.Sem
set_option maxRecDepth 16384

variable (x0 : (⟨S10000x128, .f32⟩ : BufTy).Contents (Elt Ideal)) (x3 : (⟨S512x128, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 : (⟨S128, .f32⟩ : BufTy).Contents (Elt Ideal)) (x13 : (⟨S32x512, .f32⟩ : BufTy).Contents (Elt Ideal)) (x14 : (⟨S32x512x8, .f32⟩ : BufTy).Contents (Elt Ideal)) (x15 : (⟨S32x512, .f32⟩ : BufTy).Contents (Elt Ideal)) (x16 : (⟨S128x32, .f32⟩ : BufTy).Contents (Elt Ideal)) (x17 : (⟨S128x32x8, .f32⟩ : BufTy).Contents (Elt Ideal)) (x18 : (⟨S128x32, .f32⟩ : BufTy).Contents (Elt Ideal)) (x19 : (⟨S16x256, .f32⟩ : BufTy).Contents (Elt Ideal)) (x20 : (⟨S16x256x8, .f32⟩ : BufTy).Contents (Elt Ideal)) (x21 : (⟨S16x256, .f32⟩ : BufTy).Contents (Elt Ideal)) (x22 : (⟨S10x16, .f32⟩ : BufTy).Contents (Elt Ideal)) (x23 : (⟨S10x16x8, .f32⟩ : BufTy).Contents (Elt Ideal)) (x24 : (⟨S10x16, .f32⟩ : BufTy).Contents (Elt Ideal))

/-- Layer 1's grid. -/
theorem grid1 (i : Fin 512) (m : Fin 12) : val_main_v67 (F := Ideal) (ix2 i m) = knot m := by
  pointwise [val_main_cst_6, val_main_cst_7, val_main_v56, val_main_v57, val_main_cst_8, val_main_v58, val_main_v59, val_main_v60, val_main_v61, val_main_cst_9, val_main_v62, val_main_v63, val_main_v64, val_main_v65, val_main_v66, val_main_v67]
  rfl

/-- Layer 1's basis functions of degree 0. -/
theorem basis1_0 (r : Fin 10000) (i : Fin 512) (m : Fin 11) : val_main_v86 (F := Ideal) x0 x3 x4 x5 x6 x7 x8 x9 x10 (ix3 r i m) = refB 0 m (val_main_v49 (F := Ideal) x0 x3 x4 x5 x6 x7 x8 x9 x10 (ix2 r i)) := by
  pointwise [val_main_v74, val_main_v75, val_main_v76, val_main_v77, val_main_v78, val_main_v79, val_main_v80, val_main_v81, val_main_v82, val_main_v83, val_main_v84, val_main_v85, val_main_v86]
  simp only [grid1]
  rfl

/-- Layer 1's basis functions of degree 1. -/
theorem basis1_1 (r : Fin 10000) (i : Fin 512) (m : Fin 10) : val_main_v115 (F := Ideal) x0 x3 x4 x5 x6 x7 x8 x9 x10 (ix3 r i m) = refB 1 m (val_main_v49 (F := Ideal) x0 x3 x4 x5 x6 x7 x8 x9 x10 (ix2 r i)) := by
  pointwise [val_main_v74, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115]
  simp only [grid1, basis1_0]
  rfl

/-- Layer 1's basis functions of degree 2. -/
theorem basis1_2 (r : Fin 10000) (i : Fin 512) (m : Fin 9) : val_main_v144 (F := Ideal) x0 x3 x4 x5 x6 x7 x8 x9 x10 (ix3 r i m) = refB 2 m (val_main_v49 (F := Ideal) x0 x3 x4 x5 x6 x7 x8 x9 x10 (ix2 r i)) := by
  pointwise [val_main_v74, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144]
  simp only [grid1, basis1_1]
  rfl

/-- Layer 1's basis functions of degree 3. -/
theorem basis1_3 (r : Fin 10000) (i : Fin 512) (m : Fin 8) : val_main_v173 (F := Ideal) x0 x3 x4 x5 x6 x7 x8 x9 x10 (ix3 r i m) = refB 3 m (val_main_v49 (F := Ideal) x0 x3 x4 x5 x6 x7 x8 x9 x10 (ix2 r i)) := by
  pointwise [val_main_v74, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173]
  simp only [grid1, basis1_2]
  rfl

/-- Layer 1 at one row and one output feature. -/
theorem layer1 (r : Fin 10000) (f : Fin 32) : val_main_v178 (F := Ideal) x0 x3 x4 x5 x6 x7 x8 x9 x10 x13 x14 x15 (ix2 r f)
    = kanR (n := 512) rfl (fun i => val_main_v49 (F := Ideal) x0 x3 x4 x5 x6 x7 x8 x9 x10 (ix2 r i)) (fun i => x13 (ix2 f i)) (fun i j => x14 (ix3 f i j)) (fun i => x15 (ix2 f i)) := by
  pointwise [val_main_call5_v0, val_main_call5_v1, val_main_call5_cst, val_main_call5_v2, val_main_call5_v3, val_main_call5_cst_0, val_main_call5_v4, val_main_call5_v5, val_main_v68, val_main_v69, val_main_v70, val_main_v71, val_main_v72, val_main_v73, val_main_v174, val_main_v175, val_main_v176, val_main_v177, val_main_v178]
  simp only [basis1_3]
  rfl

/-- Layer 2's grid. -/
theorem grid2 (i : Fin 32) (m : Fin 12) : val_main_v190 (F := Ideal) (ix2 i m) = knot m := by
  pointwise [val_main_cst_10, val_main_cst_11, val_main_v179, val_main_v180, val_main_cst_12, val_main_v181, val_main_v182, val_main_v183, val_main_v184, val_main_cst_13, val_main_v185, val_main_v186, val_main_v187, val_main_v188, val_main_v189, val_main_v190]
  rfl

/-- Layer 2's basis functions of degree 0. -/
theorem basis2_0 (r : Fin 10000) (i : Fin 32) (m : Fin 11) : val_main_v209 (F := Ideal) x0 x3 x4 x5 x6 x7 x8 x9 x10 x13 x14 x15 (ix3 r i m) = refB 0 m (val_main_v178 (F := Ideal) x0 x3 x4 x5 x6 x7 x8 x9 x10 x13 x14 x15 (ix2 r i)) := by
  pointwise [val_main_v197, val_main_v198, val_main_v199, val_main_v200, val_main_v201, val_main_v202, val_main_v203, val_main_v204, val_main_v205, val_main_v206, val_main_v207, val_main_v208, val_main_v209]
  simp only [grid2]
  rfl

/-- Layer 2's basis functions of degree 1. -/
theorem basis2_1 (r : Fin 10000) (i : Fin 32) (m : Fin 10) : val_main_v238 (F := Ideal) x0 x3 x4 x5 x6 x7 x8 x9 x10 x13 x14 x15 (ix3 r i m) = refB 1 m (val_main_v178 (F := Ideal) x0 x3 x4 x5 x6 x7 x8 x9 x10 x13 x14 x15 (ix2 r i)) := by
  pointwise [val_main_v197, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238]
  simp only [grid2, basis2_0]
  rfl

/-- Layer 2's basis functions of degree 2. -/
theorem basis2_2 (r : Fin 10000) (i : Fin 32) (m : Fin 9) : val_main_v267 (F := Ideal) x0 x3 x4 x5 x6 x7 x8 x9 x10 x13 x14 x15 (ix3 r i m) = refB 2 m (val_main_v178 (F := Ideal) x0 x3 x4 x5 x6 x7 x8 x9 x10 x13 x14 x15 (ix2 r i)) := by
  pointwise [val_main_v197, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267]
  simp only [grid2, basis2_1]
  rfl

/-- Layer 2's basis functions of degree 3. -/
theorem basis2_3 (r : Fin 10000) (i : Fin 32) (m : Fin 8) : val_main_v296 (F := Ideal) x0 x3 x4 x5 x6 x7 x8 x9 x10 x13 x14 x15 (ix3 r i m) = refB 3 m (val_main_v178 (F := Ideal) x0 x3 x4 x5 x6 x7 x8 x9 x10 x13 x14 x15 (ix2 r i)) := by
  pointwise [val_main_v197, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296]
  simp only [grid2, basis2_2]
  rfl

/-- Layer 2 at one row and one output feature. -/
theorem layer2 (r : Fin 10000) (f : Fin 128) : val_main_v301 (F := Ideal) x0 x3 x4 x5 x6 x7 x8 x9 x10 x13 x14 x15 x16 x17 x18 (ix2 r f)
    = kanR (n := 32) rfl (fun i => val_main_v178 (F := Ideal) x0 x3 x4 x5 x6 x7 x8 x9 x10 x13 x14 x15 (ix2 r i)) (fun i => x16 (ix2 f i)) (fun i j => x17 (ix3 f i j)) (fun i => x18 (ix2 f i)) := by
  pointwise [val_main_call6_v0, val_main_call6_v1, val_main_call6_cst, val_main_call6_v2, val_main_call6_v3, val_main_call6_cst_0, val_main_call6_v4, val_main_call6_v5, val_main_v191, val_main_v192, val_main_v193, val_main_v194, val_main_v195, val_main_v196, val_main_v297, val_main_v298, val_main_v299, val_main_v300, val_main_v301]
  simp only [basis2_3]
  rfl

/-- Layer 3's grid. -/
theorem grid3 (i : Fin 256) (m : Fin 12) : val_main_v314 (F := Ideal) (ix2 i m) = knot m := by
  pointwise [val_main_cst_14, val_main_cst_15, val_main_v303, val_main_v304, val_main_cst_16, val_main_v305, val_main_v306, val_main_v307, val_main_v308, val_main_cst_17, val_main_v309, val_main_v310, val_main_v311, val_main_v312, val_main_v313, val_main_v314]
  rfl

/-- Layer 3's basis functions of degree 0. -/
theorem basis3_0 (r : Fin 10000) (i : Fin 256) (m : Fin 11) : val_main_v333 (F := Ideal) x0 x3 x4 x5 x6 x7 x8 x9 x10 x11 x12 x13 x14 x15 x16 x17 x18 (ix3 r i m) = refB 0 m (val_main_v302 (F := Ideal) x0 x3 x4 x5 x6 x7 x8 x9 x10 x11 x12 x13 x14 x15 x16 x17 x18 (ix2 r i)) := by
  pointwise [val_main_v321, val_main_v322, val_main_v323, val_main_v324, val_main_v325, val_main_v326, val_main_v327, val_main_v328, val_main_v329, val_main_v330, val_main_v331, val_main_v332, val_main_v333]
  simp only [grid3]
  rfl

/-- Layer 3's basis functions of degree 1. -/
theorem basis3_1 (r : Fin 10000) (i : Fin 256) (m : Fin 10) : val_main_v362 (F := Ideal) x0 x3 x4 x5 x6 x7 x8 x9 x10 x11 x12 x13 x14 x15 x16 x17 x18 (ix3 r i m) = refB 1 m (val_main_v302 (F := Ideal) x0 x3 x4 x5 x6 x7 x8 x9 x10 x11 x12 x13 x14 x15 x16 x17 x18 (ix2 r i)) := by
  pointwise [val_main_v321, val_main_v334, val_main_v335, val_main_v336, val_main_v337, val_main_v338, val_main_v339, val_main_v340, val_main_v341, val_main_v342, val_main_v343, val_main_v344, val_main_v345, val_main_v346, val_main_v347, val_main_v348, val_main_v349, val_main_v350, val_main_v351, val_main_v352, val_main_v353, val_main_v354, val_main_v355, val_main_v356, val_main_v357, val_main_v358, val_main_v359, val_main_v360, val_main_v361, val_main_v362]
  simp only [grid3, basis3_0]
  rfl

/-- Layer 3's basis functions of degree 2. -/
theorem basis3_2 (r : Fin 10000) (i : Fin 256) (m : Fin 9) : val_main_v391 (F := Ideal) x0 x3 x4 x5 x6 x7 x8 x9 x10 x11 x12 x13 x14 x15 x16 x17 x18 (ix3 r i m) = refB 2 m (val_main_v302 (F := Ideal) x0 x3 x4 x5 x6 x7 x8 x9 x10 x11 x12 x13 x14 x15 x16 x17 x18 (ix2 r i)) := by
  pointwise [val_main_v321, val_main_v363, val_main_v364, val_main_v365, val_main_v366, val_main_v367, val_main_v368, val_main_v369, val_main_v370, val_main_v371, val_main_v372, val_main_v373, val_main_v374, val_main_v375, val_main_v376, val_main_v377, val_main_v378, val_main_v379, val_main_v380, val_main_v381, val_main_v382, val_main_v383, val_main_v384, val_main_v385, val_main_v386, val_main_v387, val_main_v388, val_main_v389, val_main_v390, val_main_v391]
  simp only [grid3, basis3_1]
  rfl

/-- Layer 3's basis functions of degree 3. -/
theorem basis3_3 (r : Fin 10000) (i : Fin 256) (m : Fin 8) : val_main_v420 (F := Ideal) x0 x3 x4 x5 x6 x7 x8 x9 x10 x11 x12 x13 x14 x15 x16 x17 x18 (ix3 r i m) = refB 3 m (val_main_v302 (F := Ideal) x0 x3 x4 x5 x6 x7 x8 x9 x10 x11 x12 x13 x14 x15 x16 x17 x18 (ix2 r i)) := by
  pointwise [val_main_v321, val_main_v392, val_main_v393, val_main_v394, val_main_v395, val_main_v396, val_main_v397, val_main_v398, val_main_v399, val_main_v400, val_main_v401, val_main_v402, val_main_v403, val_main_v404, val_main_v405, val_main_v406, val_main_v407, val_main_v408, val_main_v409, val_main_v410, val_main_v411, val_main_v412, val_main_v413, val_main_v414, val_main_v415, val_main_v416, val_main_v417, val_main_v418, val_main_v419, val_main_v420]
  simp only [grid3, basis3_2]
  rfl

/-- Layer 3 at one row and one output feature. -/
theorem layer3 (r : Fin 10000) (f : Fin 16) : val_main_v425 (F := Ideal) x0 x3 x4 x5 x6 x7 x8 x9 x10 x11 x12 x13 x14 x15 x16 x17 x18 x19 x20 x21 (ix2 r f)
    = kanR (n := 256) rfl (fun i => val_main_v302 (F := Ideal) x0 x3 x4 x5 x6 x7 x8 x9 x10 x11 x12 x13 x14 x15 x16 x17 x18 (ix2 r i)) (fun i => x19 (ix2 f i)) (fun i j => x20 (ix3 f i j)) (fun i => x21 (ix2 f i)) := by
  pointwise [val_main_call7_v0, val_main_call7_v1, val_main_call7_cst, val_main_call7_v2, val_main_call7_v3, val_main_call7_cst_0, val_main_call7_v4, val_main_call7_v5, val_main_v315, val_main_v316, val_main_v317, val_main_v318, val_main_v319, val_main_v320, val_main_v421, val_main_v422, val_main_v423, val_main_v424, val_main_v425]
  simp only [basis3_3]
  rfl

/-- Layer 4's grid. -/
theorem grid4 (i : Fin 16) (m : Fin 12) : val_main_v437 (F := Ideal) (ix2 i m) = knot m := by
  pointwise [val_main_cst_18, val_main_cst_19, val_main_v426, val_main_v427, val_main_cst_20, val_main_v428, val_main_v429, val_main_v430, val_main_v431, val_main_cst_21, val_main_v432, val_main_v433, val_main_v434, val_main_v435, val_main_v436, val_main_v437]
  rfl

/-- Layer 4's basis functions of degree 0. -/
theorem basis4_0 (r : Fin 10000) (i : Fin 16) (m : Fin 11) : val_main_v456 (F := Ideal) x0 x3 x4 x5 x6 x7 x8 x9 x10 x11 x12 x13 x14 x15 x16 x17 x18 x19 x20 x21 (ix3 r i m) = refB 0 m (val_main_v425 (F := Ideal) x0 x3 x4 x5 x6 x7 x8 x9 x10 x11 x12 x13 x14 x15 x16 x17 x18 x19 x20 x21 (ix2 r i)) := by
  pointwise [val_main_v444, val_main_v445, val_main_v446, val_main_v447, val_main_v448, val_main_v449, val_main_v450, val_main_v451, val_main_v452, val_main_v453, val_main_v454, val_main_v455, val_main_v456]
  simp only [grid4]
  rfl

/-- Layer 4's basis functions of degree 1. -/
theorem basis4_1 (r : Fin 10000) (i : Fin 16) (m : Fin 10) : val_main_v485 (F := Ideal) x0 x3 x4 x5 x6 x7 x8 x9 x10 x11 x12 x13 x14 x15 x16 x17 x18 x19 x20 x21 (ix3 r i m) = refB 1 m (val_main_v425 (F := Ideal) x0 x3 x4 x5 x6 x7 x8 x9 x10 x11 x12 x13 x14 x15 x16 x17 x18 x19 x20 x21 (ix2 r i)) := by
  pointwise [val_main_v444, val_main_v457, val_main_v458, val_main_v459, val_main_v460, val_main_v461, val_main_v462, val_main_v463, val_main_v464, val_main_v465, val_main_v466, val_main_v467, val_main_v468, val_main_v469, val_main_v470, val_main_v471, val_main_v472, val_main_v473, val_main_v474, val_main_v475, val_main_v476, val_main_v477, val_main_v478, val_main_v479, val_main_v480, val_main_v481, val_main_v482, val_main_v483, val_main_v484, val_main_v485]
  simp only [grid4, basis4_0]
  rfl

/-- Layer 4's basis functions of degree 2. -/
theorem basis4_2 (r : Fin 10000) (i : Fin 16) (m : Fin 9) : val_main_v514 (F := Ideal) x0 x3 x4 x5 x6 x7 x8 x9 x10 x11 x12 x13 x14 x15 x16 x17 x18 x19 x20 x21 (ix3 r i m) = refB 2 m (val_main_v425 (F := Ideal) x0 x3 x4 x5 x6 x7 x8 x9 x10 x11 x12 x13 x14 x15 x16 x17 x18 x19 x20 x21 (ix2 r i)) := by
  pointwise [val_main_v444, val_main_v486, val_main_v487, val_main_v488, val_main_v489, val_main_v490, val_main_v491, val_main_v492, val_main_v493, val_main_v494, val_main_v495, val_main_v496, val_main_v497, val_main_v498, val_main_v499, val_main_v500, val_main_v501, val_main_v502, val_main_v503, val_main_v504, val_main_v505, val_main_v506, val_main_v507, val_main_v508, val_main_v509, val_main_v510, val_main_v511, val_main_v512, val_main_v513, val_main_v514]
  simp only [grid4, basis4_1]
  rfl

/-- Layer 4's basis functions of degree 3. -/
theorem basis4_3 (r : Fin 10000) (i : Fin 16) (m : Fin 8) : val_main_v543 (F := Ideal) x0 x3 x4 x5 x6 x7 x8 x9 x10 x11 x12 x13 x14 x15 x16 x17 x18 x19 x20 x21 (ix3 r i m) = refB 3 m (val_main_v425 (F := Ideal) x0 x3 x4 x5 x6 x7 x8 x9 x10 x11 x12 x13 x14 x15 x16 x17 x18 x19 x20 x21 (ix2 r i)) := by
  pointwise [val_main_v444, val_main_v515, val_main_v516, val_main_v517, val_main_v518, val_main_v519, val_main_v520, val_main_v521, val_main_v522, val_main_v523, val_main_v524, val_main_v525, val_main_v526, val_main_v527, val_main_v528, val_main_v529, val_main_v530, val_main_v531, val_main_v532, val_main_v533, val_main_v534, val_main_v535, val_main_v536, val_main_v537, val_main_v538, val_main_v539, val_main_v540, val_main_v541, val_main_v542, val_main_v543]
  simp only [grid4, basis4_2]
  rfl

/-- Layer 4 at one row and one output feature. -/
theorem layer4 (r : Fin 10000) (f : Fin 10) : val_main_v548 (F := Ideal) x0 x3 x4 x5 x6 x7 x8 x9 x10 x11 x12 x13 x14 x15 x16 x17 x18 x19 x20 x21 x22 x23 x24 (ix2 r f)
    = kanR (n := 16) rfl (fun i => val_main_v425 (F := Ideal) x0 x3 x4 x5 x6 x7 x8 x9 x10 x11 x12 x13 x14 x15 x16 x17 x18 x19 x20 x21 (ix2 r i)) (fun i => x22 (ix2 f i)) (fun i j => x23 (ix3 f i j)) (fun i => x24 (ix2 f i)) := by
  pointwise [val_main_call8_v0, val_main_call8_v1, val_main_call8_cst, val_main_call8_v2, val_main_call8_v3, val_main_call8_cst_0, val_main_call8_v4, val_main_call8_v5, val_main_v438, val_main_v439, val_main_v440, val_main_v441, val_main_v442, val_main_v443, val_main_v544, val_main_v545, val_main_v546, val_main_v547, val_main_v548]
  simp only [basis4_3]
  rfl

end Cert.ReferenceIdeal.Layers
end
-- ==== Proof.RefNet.lean ====
module
public import proofs.«01_k».proof.Proof.RefLayers
@[expose] public section
noncomputable section
/-!
The reference's result as the network of its argument arrays.
-/
namespace Cert.ReferenceIdeal.Layers
open Cert.ReferenceIdeal Cert.ReferenceIdeal.Gen Cert.ReferenceIdeal.Read Cert.Spec Idealize.ShloMosaic Idealize.ShloMosaic.TcCoe Idealize.SL.Sem
set_option maxRecDepth 16384

variable (x0 : (⟨S10000x128, .f32⟩ : BufTy).Contents (Elt Ideal)) (x3 : (⟨S512x128, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 : (⟨S128, .f32⟩ : BufTy).Contents (Elt Ideal)) (x13 : (⟨S32x512, .f32⟩ : BufTy).Contents (Elt Ideal)) (x14 : (⟨S32x512x8, .f32⟩ : BufTy).Contents (Elt Ideal)) (x15 : (⟨S32x512, .f32⟩ : BufTy).Contents (Elt Ideal)) (x16 : (⟨S128x32, .f32⟩ : BufTy).Contents (Elt Ideal)) (x17 : (⟨S128x32x8, .f32⟩ : BufTy).Contents (Elt Ideal)) (x18 : (⟨S128x32, .f32⟩ : BufTy).Contents (Elt Ideal)) (x19 : (⟨S16x256, .f32⟩ : BufTy).Contents (Elt Ideal)) (x20 : (⟨S16x256x8, .f32⟩ : BufTy).Contents (Elt Ideal)) (x21 : (⟨S16x256, .f32⟩ : BufTy).Contents (Elt Ideal)) (x22 : (⟨S10x16, .f32⟩ : BufTy).Contents (Elt Ideal)) (x23 : (⟨S10x16x8, .f32⟩ : BufTy).Contents (Elt Ideal)) (x24 : (⟨S10x16, .f32⟩ : BufTy).Contents (Elt Ideal))

/-- The reference's argument arrays, read at their indices. -/
def args : Args where
  x := fun i j => x0 (ix2 i j)
  W1 := fun i j => x3 (ix2 i j)
  b1 := fun i => x4 (ix1 i)
  g1 := fun i => x5 (ix1 i)
  be1 := fun i => x6 (ix1 i)
  W2 := fun i j => x7 (ix2 i j)
  b2 := fun i => x8 (ix1 i)
  g2 := fun i => x9 (ix1 i)
  be2 := fun i => x10 (ix1 i)
  fW := fun i j => x11 (ix2 i j)
  fb := fun i => x12 (ix1 i)
  k1b := fun i j => x13 (ix2 i j)
  k1w := fun i j k => x14 (ix3 i j k)
  k1s := fun i j => x15 (ix2 i j)
  k2b := fun i j => x16 (ix2 i j)
  k2w := fun i j k => x17 (ix3 i j k)
  k2s := fun i j => x18 (ix2 i j)
  k3b := fun i j => x19 (ix2 i j)
  k3w := fun i j k => x20 (ix3 i j k)
  k3s := fun i j => x21 (ix2 i j)
  k4b := fun i j => x22 (ix2 i j)
  k4w := fun i j k => x23 (ix3 i j k)
  k4s := fun i j => x24 (ix2 i j)

/-- The reference's array is the network's `h1`. -/
theorem h1_eq (r : Fin 10000) (f : Fin 512) : val_main_v4 (F := Ideal) x0 x3 x4 (ix2 r f) = h1 (args x0 x3 x4 x5 x6 x7 x8 x9 x10 x11 x12 x13 x14 x15 x16 x17 x18 x19 x20 x21 x22 x23 x24) r f := by
  pointwise [val_main_v1, val_main_v2, val_main_v3, val_main_v4, val_main_v0]
  rfl

/-- The reference's first normalised layer, from the first linear layer. -/
theorem norm1 (r : Fin 10000) (f : Fin 512) : val_main_v24 (F := Ideal) x0 x3 x4 x5 x6 (ix2 r f)
    = normR (fun r f => val_main_v4 (F := Ideal) x0 x3 x4 (ix2 r f)) (fun f => x5 (ix1 f)) (fun f => x6 (ix1 f)) r f := by
  pointwise [val_main_cst, val_main_v5, val_main_cst_0, val_main_v6, val_main_v7, val_main_c, val_main_call0_cst, val_main_call0_v0, val_main_call0_v1, val_main_call0_cst_0, val_main_call0_v2, val_main_call0_v3, val_main_call0_v4, val_main_call0_v5, val_main_call0_v6, val_main_call0_v7, val_main_call0_cst_1, val_main_call0_v8, val_main_call0_cst_2, val_main_call0_v9, val_main_call0_v10, val_main_call0_v11, val_main_call0_cst_3, val_main_call0_v12, val_main_call0_cst_4, val_main_call0_call0_v0, val_main_call0_call0_v1, val_main_v8, val_main_v9, val_main_v10, val_main_v11, val_main_v12, val_main_v13, val_main_v14, val_main_cst_1, val_main_v15, val_main_v16, val_main_v17, val_main_v18, val_main_v19, val_main_v20, val_main_v21, val_main_v22, val_main_v23, val_main_call1_cst, val_main_call1_v0, val_main_v24]
  rfl

/-- The reference's array is the network's `a1`. -/
theorem a1_eq (r : Fin 10000) (f : Fin 512) : val_main_v24 (F := Ideal) x0 x3 x4 x5 x6 (ix2 r f) = a1 normR (args x0 x3 x4 x5 x6 x7 x8 x9 x10 x11 x12 x13 x14 x15 x16 x17 x18 x19 x20 x21 x22 x23 x24) r f := by
  rw [norm1]
  simp only [h1_eq x0 x3 x4 x5 x6 x7 x8 x9 x10 x11 x12 x13 x14 x15 x16 x17 x18 x19 x20 x21 x22 x23 x24]
  rfl

/-- The reference's array is the network's `h2`. -/
theorem h2_eq (r : Fin 10000) (f : Fin 512) : val_main_v29 (F := Ideal) x0 x3 x4 x5 x6 x7 x8 (ix2 r f) = h2 normR (args x0 x3 x4 x5 x6 x7 x8 x9 x10 x11 x12 x13 x14 x15 x16 x17 x18 x19 x20 x21 x22 x23 x24) r f := by
  pointwise [val_main_v25, val_main_v26, val_main_v27, val_main_v28, val_main_v29]
  simp only [a1_eq x0 x3 x4 x5 x6 x7 x8 x9 x10 x11 x12 x13 x14 x15 x16 x17 x18 x19 x20 x21 x22 x23 x24]
  rfl

/-- The reference's second normalised layer, from the second linear layer. -/
theorem norm2 (r : Fin 10000) (f : Fin 512) : val_main_v49 (F := Ideal) x0 x3 x4 x5 x6 x7 x8 x9 x10 (ix2 r f)
    = normR (fun r f => val_main_v29 (F := Ideal) x0 x3 x4 x5 x6 x7 x8 (ix2 r f)) (fun f => x9 (ix1 f)) (fun f => x10 (ix1 f)) r f := by
  pointwise [val_main_cst_2, val_main_v30, val_main_cst_3, val_main_v31, val_main_v32, val_main_c_4, val_main_call2_cst, val_main_call2_v0, val_main_call2_v1, val_main_call2_cst_0, val_main_call2_v2, val_main_call2_v3, val_main_call2_v4, val_main_call2_v5, val_main_call2_v6, val_main_call2_v7, val_main_call2_cst_1, val_main_call2_v8, val_main_call2_cst_2, val_main_call2_v9, val_main_call2_v10, val_main_call2_v11, val_main_call2_cst_3, val_main_call2_v12, val_main_call2_cst_4, val_main_call2_call0_v0, val_main_call2_call0_v1, val_main_v33, val_main_v34, val_main_v35, val_main_v36, val_main_v37, val_main_v38, val_main_v39, val_main_cst_5, val_main_v40, val_main_v41, val_main_v42, val_main_v43, val_main_v44, val_main_v45, val_main_v46, val_main_v47, val_main_v48, val_main_call3_cst, val_main_call3_v0, val_main_v49]
  rfl

/-- The reference's array is the network's `a2`. -/
theorem a2_eq (r : Fin 10000) (f : Fin 512) : val_main_v49 (F := Ideal) x0 x3 x4 x5 x6 x7 x8 x9 x10 (ix2 r f) = a2 normR (args x0 x3 x4 x5 x6 x7 x8 x9 x10 x11 x12 x13 x14 x15 x16 x17 x18 x19 x20 x21 x22 x23 x24) r f := by
  rw [norm2]
  simp only [h2_eq x0 x3 x4 x5 x6 x7 x8 x9 x10 x11 x12 x13 x14 x15 x16 x17 x18 x19 x20 x21 x22 x23 x24]
  rfl

/-- The reference's array is the network's `x2`. -/
theorem x2_eq (r : Fin 10000) (f : Fin 128) : val_main_v55 (F := Ideal) x0 x3 x4 x5 x6 x7 x8 x9 x10 x11 x12 (ix2 r f) = x2 normR (args x0 x3 x4 x5 x6 x7 x8 x9 x10 x11 x12 x13 x14 x15 x16 x17 x18 x19 x20 x21 x22 x23 x24) r f := by
  pointwise [val_main_v50, val_main_v51, val_main_v52, val_main_v53, val_main_v54, val_main_call4_cst, val_main_call4_v0, val_main_v55]
  simp only [a2_eq x0 x3 x4 x5 x6 x7 x8 x9 x10 x11 x12 x13 x14 x15 x16 x17 x18 x19 x20 x21 x22 x23 x24]
  rfl

/-- The reference's array is the network's `k1`. -/
theorem k1_eq (r : Fin 10000) (f : Fin 32) : val_main_v178 (F := Ideal) x0 x3 x4 x5 x6 x7 x8 x9 x10 x13 x14 x15 (ix2 r f) = k1 normR layerR (args x0 x3 x4 x5 x6 x7 x8 x9 x10 x11 x12 x13 x14 x15 x16 x17 x18 x19 x20 x21 x22 x23 x24) r f := by
  rw [layer1]
  simp only [a2_eq x0 x3 x4 x5 x6 x7 x8 x9 x10 x11 x12 x13 x14 x15 x16 x17 x18 x19 x20 x21 x22 x23 x24]
  rfl

/-- The reference's array is the network's `k2`. -/
theorem k2_eq (r : Fin 10000) (f : Fin 128) : val_main_v301 (F := Ideal) x0 x3 x4 x5 x6 x7 x8 x9 x10 x13 x14 x15 x16 x17 x18 (ix2 r f) = k2 normR layerR (args x0 x3 x4 x5 x6 x7 x8 x9 x10 x11 x12 x13 x14 x15 x16 x17 x18 x19 x20 x21 x22 x23 x24) r f := by
  rw [layer2]
  simp only [k1_eq x0 x3 x4 x5 x6 x7 x8 x9 x10 x11 x12 x13 x14 x15 x16 x17 x18 x19 x20 x21 x22 x23 x24]
  rfl

/-- The reference's array is the network's `xc`. -/
theorem xc_eq (r : Fin 10000) (f : Fin 256) : val_main_v302 (F := Ideal) x0 x3 x4 x5 x6 x7 x8 x9 x10 x11 x12 x13 x14 x15 x16 x17 x18 (ix2 r f) = xc normR layerR (args x0 x3 x4 x5 x6 x7 x8 x9 x10 x11 x12 x13 x14 x15 x16 x17 x18 x19 x20 x21 x22 x23 x24) r f := by
  pointwise [val_main_v302]
  simp only [x2_eq x0 x3 x4 x5 x6 x7 x8 x9 x10 x11 x12 x13 x14 x15 x16 x17 x18 x19 x20 x21 x22 x23 x24, k2_eq x0 x3 x4 x5 x6 x7 x8 x9 x10 x11 x12 x13 x14 x15 x16 x17 x18 x19 x20 x21 x22 x23 x24]
  rfl

/-- The reference's array is the network's `k3`. -/
theorem k3_eq (r : Fin 10000) (f : Fin 16) : val_main_v425 (F := Ideal) x0 x3 x4 x5 x6 x7 x8 x9 x10 x11 x12 x13 x14 x15 x16 x17 x18 x19 x20 x21 (ix2 r f) = k3 normR layerR (args x0 x3 x4 x5 x6 x7 x8 x9 x10 x11 x12 x13 x14 x15 x16 x17 x18 x19 x20 x21 x22 x23 x24) r f := by
  rw [layer3]
  simp only [xc_eq x0 x3 x4 x5 x6 x7 x8 x9 x10 x11 x12 x13 x14 x15 x16 x17 x18 x19 x20 x21 x22 x23 x24]
  rfl

/-- The reference's result array at a row and a feature. -/
theorem result_eq (r : Fin 10000) (f : Fin 10) : val_main_v548 (F := Ideal) x0 x3 x4 x5 x6 x7 x8 x9 x10 x11 x12 x13 x14 x15 x16 x17 x18 x19 x20 x21 x22 x23 x24 (ix2 r f) = net normR layerR (args x0 x3 x4 x5 x6 x7 x8 x9 x10 x11 x12 x13 x14 x15 x16 x17 x18 x19 x20 x21 x22 x23 x24) r f := by
  rw [layer4]
  simp only [k3_eq x0 x3 x4 x5 x6 x7 x8 x9 x10 x11 x12 x13 x14 x15 x16 x17 x18 x19 x20 x21 x22 x23 x24]
  rfl

end Cert.ReferenceIdeal.Layers
end
-- ==== Proof.Consts.lean ====
module
public import proofs.«01_k».proof.Proof.Spec
public import Idealize.ShloMosaic.Lib.KernelVsHost
@[expose] public section
noncomputable section
/-!
The real numbers that the two programs' constants denote, and the operations on real numbers.
-/
namespace Cert.Spec
open Idealize.ShloMosaic

/-- The word denotes 2. -/
theorem c_two : Ideal.ofBits FTy.f32 0x40000000#32 = ((2 : ℝ) : EReal) := by
  simp [Ideal.ofBits, Ideal.ieee, -EReal.coe_mul]; norm_num
/-- The word denotes 3. -/
theorem c_three : Ideal.ofBits FTy.f32 0x40400000#32 = ((3 : ℝ) : EReal) := by
  simp [Ideal.ofBits, Ideal.ieee, -EReal.coe_mul]; norm_num
/-- The word denotes 4. -/
theorem c_four : Ideal.ofBits FTy.f32 0x40800000#32 = ((4 : ℝ) : EReal) := by
  simp [Ideal.ofBits, Ideal.ieee, -EReal.coe_mul]; norm_num
/-- The word denotes 5. -/
theorem c_five : Ideal.ofBits FTy.f32 0x40A00000#32 = ((5 : ℝ) : EReal) := by
  simp [Ideal.ofBits, Ideal.ieee, -EReal.coe_mul]; norm_num
/-- The word denotes 6. -/
theorem c_six : Ideal.ofBits FTy.f32 0x40C00000#32 = ((6 : ℝ) : EReal) := by
  simp [Ideal.ofBits, Ideal.ieee, -EReal.coe_mul]; norm_num
/-- The word denotes 7. -/
theorem c_seven : Ideal.ofBits FTy.f32 0x40E00000#32 = ((7 : ℝ) : EReal) := by
  simp [Ideal.ofBits, Ideal.ieee, -EReal.coe_mul]; norm_num
/-- The word denotes 8. -/
theorem c_eight : Ideal.ofBits FTy.f32 0x41000000#32 = ((8 : ℝ) : EReal) := by
  simp [Ideal.ofBits, Ideal.ieee, -EReal.coe_mul]; norm_num
/-- The word denotes 9. -/
theorem c_nine : Ideal.ofBits FTy.f32 0x41100000#32 = ((9 : ℝ) : EReal) := by
  simp [Ideal.ofBits, Ideal.ieee, -EReal.coe_mul]; norm_num
/-- The word denotes 5/2. -/
theorem c_scale : Ideal.ofBits FTy.f32 0x40200000#32 = ((5 / 2 : ℝ) : EReal) := by
  simp [Ideal.ofBits, Ideal.ieee, -EReal.coe_mul]; norm_num
/-- The word denotes 11/2. -/
theorem c_shift : Ideal.ofBits FTy.f32 0x40B00000#32 = ((11 / 2 : ℝ) : EReal) := by
  simp [Ideal.ofBits, Ideal.ieee, -EReal.coe_mul]; norm_num
/-- The word denotes -3. -/
theorem c_negthree : Ideal.ofBits FTy.f32 0xC0400000#32 = ((-3 : ℝ) : EReal) := by
  simp [Ideal.ofBits, Ideal.ieee, -EReal.coe_mul]; norm_num
/-- The word denotes 10000, the number of rows. -/
theorem c_rows : Ideal.ofBits FTy.f32 0x461C4000#32 = ((10000 : ℝ) : EReal) := by
  simp [Ideal.ofBits, Ideal.ieee, -EReal.coe_mul]; norm_num
/-- The small number added to a variance is a positive real. -/
theorem c_eps : ∃ e : ℝ, 0 < e ∧ Ideal.ofBits FTy.f32 0x3727C5AC#32 = (e : EReal) := by
  refine ⟨(0x27C5AC + 0x800000) * (2 : ℝ) ^ (-40 : ℤ), by positivity, ?_⟩
  simp [Ideal.ofBits, Ideal.ieee, -EReal.coe_mul]; norm_num
/-- The named constant is exactly 1/10000. -/
theorem c_invN : invN = ((1 / 10000 : ℝ) : EReal) :=
  IdealRules.named_const.ideal_named_scalar _ _ _ _ rfl
/-- The kernel's quotient is exactly one sixth. -/
theorem sixth : Ideal.div 1 (Ideal.ofBits FTy.f32 0x40C00000#32) = ((1 / 6 : ℝ) : EReal) := by
  rw [c_six, Ideal.div_coe (by norm_num), one_mul]

/-- A quotient of reals. -/
theorem div_real (a b : ℝ) (h : b ≠ 0) : Ideal.div (a : EReal) (b : EReal) = ((a / b : ℝ) : EReal) := by
  rw [Ideal.div_coe h, ← EReal.coe_mul, mul_one_div]

/-- The larger of two reals. -/
theorem max_real (a b : ℝ) : max (a : EReal) (b : EReal) = ((max a b : ℝ) : EReal) := (EReal.coe_strictMono.monotone.map_max).symm

/-- A finite sum of reals is real. -/
theorem sum_real {n : ℕ} (g : Fin n → ℝ) : ∑ i, (g i : EReal) = ((∑ i, g i : ℝ) : EReal) := by
  induction n with
  | zero => simp
  | succ n ih => rw [Fin.sum_univ_succ, Fin.sum_univ_succ, ih, EReal.coe_add]

/-- A knot is the real `(m - 3) · 2 / 5 - 1`. -/
theorem knot_real (m : ℕ) (hm : m < 12) : knot m = (((m - 3) * (2 / 5) - 1 : ℝ) : EReal) := by
  have h : (BitVec.ofNat 32 m).toInt = m := by
    rw [BitVec.toInt_eq_toNat_cond, BitVec.toNat_ofNat, Nat.mod_eq_of_lt (by omega), if_pos (by omega)]
  have h' : FloatOps.sitofp (F := Ideal) FTy.f32 (BitVec.ofNat 32 m) = ((m : ℝ) : EReal) :=
    (show _ = (((BitVec.ofNat 32 m).toInt : ℝ) : EReal) from rfl).trans (by rw [h]; norm_cast)
  unfold knot
  rw [h', c_negthree, c_two, c_five, div_real _ _ (by norm_num), ← EReal.coe_one, ← EReal.coe_add, ← EReal.coe_mul, ← EReal.coe_sub]
  congr 1
  ring

end Cert.Spec
end
-- ==== Proof.Basis.lean ====
module
public import proofs.«01_k».proof.Proof.Consts
@[expose] public section
noncomputable section
/-!
The kernel's closed form of a cubic spline is six times the one the reference's recursion defines,
so the two programs' spline layers agree on every input.
-/
namespace Cert.Spec
open Idealize.ShloMosaic

/-- The recursion of B-splines over the integers. -/
def rB : ℕ → ℕ → ℝ → ℝ
  | 0, m, y => if (m : ℝ) ≤ y ∧ y < m + 1 then 1 else 0
  | k + 1, m, y => (y - m) / (k + 1) * rB k m y + ((m + k + 2) - y) / (k + 1) * rB k (m + 1) y

/-- The closed form of six times a cubic B-spline, at a distance from its centre. -/
def cube (d : ℝ) : ℝ :=
  max (2 - d) 0 * max (2 - d) 0 * max (2 - d) 0 - 4 * (max (1 - d) 0 * max (1 - d) 0 * max (1 - d) 0)

/-- The cubic the recursion defines has the closed form. -/
theorem cube_eq (j : ℕ) (y : ℝ) : cube |y - (j + 2)| = 6 * rB 3 j y := by
  obtain ⟨u, rfl⟩ : ∃ u : ℝ, y = j + u := ⟨y - j, by ring⟩
  have e : (j : ℝ) + u - (j + 2) = u - 2 := by ring
  rw [e]
  simp only [rB, cube]
  push_cast
  rcases lt_or_ge u 0 with h0 | h0
  · rw [abs_of_neg (by linarith), max_eq_right (by linarith), max_eq_right (by linarith), if_neg (by rintro ⟨a, b⟩; linarith), if_neg (by rintro ⟨a, b⟩; linarith), if_neg (by rintro ⟨a, b⟩; linarith), if_neg (by rintro ⟨a, b⟩; linarith)]
    ring
  rcases lt_or_ge u 1 with h1 | h1
  · rw [abs_of_neg (by linarith), max_eq_left (by linarith), max_eq_right (by linarith), if_pos ⟨by linarith, by linarith⟩, if_neg (by rintro ⟨a, b⟩; linarith), if_neg (by rintro ⟨a, b⟩; linarith), if_neg (by rintro ⟨a, b⟩; linarith)]
    ring
  rcases lt_or_ge u 2 with h2 | h2
  · rw [abs_of_neg (by linarith), max_eq_left (by linarith), max_eq_left (by linarith), if_neg (by rintro ⟨a, b⟩; linarith), if_pos ⟨by linarith, by linarith⟩, if_neg (by rintro ⟨a, b⟩; linarith), if_neg (by rintro ⟨a, b⟩; linarith)]
    ring
  rcases lt_or_ge u 3 with h3 | h3
  · rw [abs_of_nonneg (by linarith), max_eq_left (by linarith), max_eq_left (by linarith), if_neg (by rintro ⟨a, b⟩; linarith), if_neg (by rintro ⟨a, b⟩; linarith), if_pos ⟨by linarith, by linarith⟩, if_neg (by rintro ⟨a, b⟩; linarith)]
    ring
  rcases lt_or_ge u 4 with h4 | h4
  · rw [abs_of_nonneg (by linarith), max_eq_left (by linarith), max_eq_right (by linarith), if_neg (by rintro ⟨a, b⟩; linarith), if_neg (by rintro ⟨a, b⟩; linarith), if_neg (by rintro ⟨a, b⟩; linarith), if_pos ⟨by linarith, by linarith⟩]
    ring
  · rw [abs_of_nonneg (by linarith), max_eq_right (by linarith), max_eq_right (by linarith), if_neg (by rintro ⟨a, b⟩; linarith), if_neg (by rintro ⟨a, b⟩; linarith), if_neg (by rintro ⟨a, b⟩; linarith), if_neg (by rintro ⟨a, b⟩; linarith)]
    ring

/-- An indicator is one where both comparisons hold, else zero. -/
theorem ind_eq (p q : Prop) [Decidable p] [Decidable q] :
    FloatOps.uitofp (F := Ideal) FTy.f32 (IntOp.andi (BitVec.ofBool (decide p)) (BitVec.ofBool (decide q)))
      = ((if p ∧ q then 1 else 0 : ℝ) : EReal) := by
  refine (show _ = (((IntOp.andi (BitVec.ofBool (decide p)) (BitVec.ofBool (decide q))).toNat : ℝ) : EReal) from rfl).trans ?_
  by_cases hp : p <;> by_cases hq : q <;> simp [hp, hq, IntOp.andi]

/-- The reference's recursion at a real is the real recursion over the integers. -/
theorem refB_real (k m : ℕ) (h : k + m < 11) (x : ℝ) :
    refB k m (x : EReal) = ((rB k m (5 / 2 * x + 11 / 2) : ℝ) : EReal) := by
  induction k generalizing m with
  | zero =>
    rw [refB, ind_eq, rB, knot_real m (by omega), knot_real (1 + m) (by omega)]
    congr 1
    refine if_congr (and_congr (EReal.coe_le_coe_iff.trans ?_) (EReal.coe_lt_coe_iff.trans ?_)) rfl rfl
    · constructor <;> intro h <;> linarith
    · push_cast
      constructor <;> intro h <;> linarith
  | succ k ih =>
    have hk : (k : ℝ) + 1 ≠ 0 := by positivity
    rw [refB, rB, ih m (by omega), ih (1 + m) (by omega), knot_real m (by omega), knot_real (1 + m) (by omega),
      knot_real (k + 1 + m) (by omega), knot_real (k + 2 + m) (by omega)]
    simp only [← EReal.coe_sub]
    rw [div_real, div_real, ← EReal.coe_mul, ← EReal.coe_mul, ← EReal.coe_add, add_comm 1 m]
    · congr 1
      push_cast
      congr 2
      · rw [div_eq_div_iff (by ring_nf; positivity) hk]
        ring
      · rw [div_eq_div_iff (by ring_nf; positivity) hk]
        ring
    · push_cast; ring_nf; positivity
    · push_cast; ring_nf; positivity

/-- At a real input the kernel's basis function is the closed form at the distance from the centre. -/
theorem kBasis_real (c : BitVec 32) (q : ℝ) (hc : Ideal.ofBits FTy.f32 c = (q : EReal)) (x : ℝ) :
    kBasis c (x : EReal) = ((cube |5 / 2 * x + 11 / 2 - q| : ℝ) : EReal) := by
  have hd : kDist c (x : EReal) = ((|5 / 2 * x + 11 / 2 - q| : ℝ) : EReal) := by
    unfold kDist
    rw [hc, c_scale, c_shift, ← EReal.coe_mul, ← EReal.coe_add, ← EReal.coe_sub]
    refine (Ideal.absf_def _).trans ?_
    rw [← EReal.coe_neg, max_real, abs_eq_max_neg, mul_comm]
  unfold kBasis kCube
  rw [hd, c_two, c_four, ← EReal.coe_one, ← EReal.coe_zero]
  simp only [← EReal.coe_sub, max_real, ← EReal.coe_mul]
  rfl

/-- The closed form is zero at an infinite distance. -/
theorem kCube_top : kCube ⊤ = 0 := by
  unfold kCube
  rw [c_two, c_four]
  simp

/-- The kernel's basis function is zero at plus infinity. -/
theorem kBasis_top (c : BitVec 32) (q : ℝ) (hc : Ideal.ofBits FTy.f32 c = (q : EReal)) : kBasis c ⊤ = 0 := by
  have hd : kDist c ⊤ = ⊤ := by
    unfold kDist
    rw [hc, c_scale, c_shift, EReal.top_mul_coe_of_pos (by norm_num)]
    refine (Ideal.absf_def _).trans ?_
    simp
  unfold kBasis
  rw [hd, kCube_top]

/-- The kernel's basis function is zero at minus infinity. -/
theorem kBasis_bot (c : BitVec 32) (q : ℝ) (hc : Ideal.ofBits FTy.f32 c = (q : EReal)) : kBasis c ⊥ = 0 := by
  have hd : kDist c ⊥ = ⊤ := by
    unfold kDist
    rw [hc, c_scale, c_shift, EReal.bot_mul_coe_of_pos (by norm_num)]
    refine (Ideal.absf_def _).trans ?_
    simp
  unfold kBasis
  rw [hd, kCube_top]

/-- No interval between knots holds an infinite input, so every basis function is zero there. -/
theorem refB_inf (k m : ℕ) (h : k + m < 11) (x : EReal) (hx : x = ⊤ ∨ x = ⊥) : refB k m x = 0 := by
  induction k generalizing m with
  | zero =>
    rw [refB, ind_eq, knot_real m (by omega), knot_real (1 + m) (by omega)]
    rcases hx with rfl | rfl
    · rw [if_neg fun h => not_top_lt h.2]; rfl
    · rw [if_neg fun h => EReal.coe_ne_bot _ (le_bot_iff.mp h.1)]; rfl
  | succ k ih => rw [refB, ih m (by omega), ih (1 + m) (by omega), mul_zero, mul_zero, add_zero]

/-- The kernel's basis function is six times the reference's, at every input. -/
theorem kBasis_eq (c : BitVec 32) (j : ℕ) (hj : j < 8) (hc : Ideal.ofBits FTy.f32 c = ((j + 2 : ℝ) : EReal)) (x : EReal) :
    kBasis c x = ((6 : ℝ) : EReal) * refB 3 j x := by
  induction x with
  | bot => rw [kBasis_bot c _ hc, refB_inf 3 j (by omega) _ (.inr rfl), mul_zero]
  | top => rw [kBasis_top c _ hc, refB_inf 3 j (by omega) _ (.inl rfl), mul_zero]
  | coe x => rw [kBasis_real c _ hc, refB_real 3 j (by omega), cube_eq, EReal.coe_mul]

/-- The kernel's silu is the reference's. -/
theorem silu_eq (x : EReal) : kSilu x = rSilu x := by
  unfold kSilu rSilu
  rw [zero_sub]

/-- Six times a basis function, under a sixth of the scale, is the basis function under the scale. -/
theorem sixth_mul (b w s : EReal) :
    ((6 : ℝ) : EReal) * b * (w * (s * ((1 / 6 : ℝ) : EReal))) = b * (w * s) := by
  have h : ((6 : ℝ) : EReal) * ((1 / 6 : ℝ) : EReal) = 1 := by
    rw [← EReal.coe_mul, mul_one_div_cancel (by norm_num), EReal.coe_one]
  calc _ = b * (w * s) * (((6 : ℝ) : EReal) * ((1 / 6 : ℝ) : EReal)) := by
        simp only [mul_comm, mul_left_comm, mul_assoc]
    _ = _ := by rw [h, mul_one]

/-- One basis function's part of a layer, the kernel's and the reference's. -/
theorem part_eq {n : ℕ} (x s : Fin n → EReal) (w : Fin n → Fin 8 → EReal) (c : BitVec 32) (j : Fin 8) (q : ℝ)
    (hc : Ideal.ofBits FTy.f32 c = (q : EReal)) (hq : q = (j : ℕ) + 2) :
    ∑ i, kBasis c (x i) * (w i j * (s i * Ideal.div 1 (Ideal.ofBits FTy.f32 1086324736#32)))
      = ∑ i, refB 3 j (x i) * (w i j * s i) :=
  Finset.sum_congr rfl fun i _ => by
    rw [kBasis_eq c j j.isLt (hq ▸ hc)]
    exact (congrArg (fun t => _ * (_ * (_ * t))) sixth).trans (sixth_mul _ _ _)

/-- A sum over inputs and basis functions flattened together is the sum over both. -/
theorem flat_sum {n : ℕ} (g : Fin n → Fin 8 → EReal) :
    ∑ k : Fin (n * 8), g ⟨k / 8, Nat.div_lt_of_lt_mul (mul_comm n 8 ▸ k.isLt)⟩ ⟨k % 8, Nat.mod_lt _ (by norm_num)⟩
      = ∑ j, ∑ i, g i j := by
  rw [Finset.sum_comm, ← Finset.sum_product']
  exact finProdFinEquiv.symm.sum_comp fun p : Fin n × Fin 8 => g p.1 p.2

/-- The two programs' spline layers are one function. -/
theorem layer_eq : layerK = layerR := by
  funext n x b w s
  unfold layerK layerR kanK kanR
  refine Eq.trans ?_ (congrArg₂ (· + ·) rfl (flat_sum fun i j => refB 3 j (x i) * (w i j * s i)).symm)
  rw [Fin.sum_univ_eight, part_eq x s w _ 0 2 c_two (by norm_num), part_eq x s w _ 1 3 c_three (by norm_num),
    part_eq x s w _ 2 4 c_four (by norm_num), part_eq x s w _ 3 5 c_five (by norm_num), part_eq x s w _ 4 6 c_six (by norm_num),
    part_eq x s w _ 5 7 c_seven (by norm_num), part_eq x s w _ 6 8 c_eight (by norm_num), part_eq x s w _ 7 9 c_nine (by norm_num)]
  simp only [silu_eq, add_assoc]
end Cert.Spec
end
-- ==== Proof.Norms.lean ====
module
public import proofs.«01_k».proof.Proof.Basis
@[expose] public section
noncomputable section
/-!
On finite columns the kernel's one-pass normalisation is the reference's two-pass one, and the two
networks are then one function.
-/
namespace Cert.Spec
open Idealize.ShloMosaic

/-- The extended real is a real number. -/
def IsReal (a : EReal) : Prop := ∃ t : ℝ, a = (t : EReal)

/-- The mean of the squares less the square of the mean is the mean of the squared differences. -/
theorem var_eq (h : Fin 10000 → ℝ) :
    (∑ r, h r * h r) * (1 / 10000) - (∑ r, h r) * (1 / 10000) * ((∑ r, h r) * (1 / 10000))
      = (∑ r, (h r - (∑ r, h r) / 10000) * (h r - (∑ r, h r) / 10000)) / 10000 := by
  have e : ∀ μ : ℝ, ∑ r, (h r - μ) * (h r - μ) = (∑ r, h r * h r) - 2 * μ * (∑ r, h r) + 10000 * (μ * μ) := fun μ => by
    have : ∀ r, (h r - μ) * (h r - μ) = h r * h r - 2 * μ * h r + μ * μ := fun r => by ring
    simp only [this, Finset.sum_add_distrib, Finset.sum_sub_distrib, ← Finset.mul_sum, Finset.sum_const, Finset.card_univ, Fintype.card_fin, nsmul_eq_mul]
    norm_num
    ring
  rw [e]
  ring

/-- The variance of a column plus the small constant is a positive real. -/
theorem var_pos (h : Fin 10000 → ℝ) (μ e : ℝ) (he : 0 < e) : 0 < (∑ r, (h r - μ) * (h r - μ)) / 10000 + e :=
  add_pos_of_nonneg_of_pos (div_nonneg (Finset.sum_nonneg fun r _ => mul_self_nonneg _) (by norm_num)) he

/-- The reciprocal root of a positive real. -/
theorem rsqrt_real (v : ℝ) (hv : 0 < v) : Ideal.rsqrt (v : EReal) = (((√v)⁻¹ : ℝ) : EReal) := by
  rw [Ideal.rsqrt_coe, if_neg (not_lt.mpr hv.le), if_neg hv.ne']

/-- An offset added to a product less the mean's product is the offset added to the product of the difference. -/
theorem shift_eq (b : EReal) (p q : ℝ) : (p : EReal) + (b - (q : EReal)) = ((p - q : ℝ) : EReal) + b := by
  induction b with
  | bot => simp [sub_eq_add_neg]
  | top =>
    rw [EReal.top_sub_coe, EReal.coe_add_top, EReal.coe_add_top]
  | coe b =>
    rw [← EReal.coe_sub, ← EReal.coe_add, ← EReal.coe_add]
    congr 1
    ring

/-- The number of rows less no correction is 10000. -/
theorem count_eq : Ideal.ofBits FTy.f32 1176256512#32 - FloatOps.sitofp (F := Ideal) FTy.f32 0#32 = ((10000 : ℝ) : EReal) := by
  have h : FloatOps.sitofp (F := Ideal) FTy.f32 0#32 = ((0 : ℝ) : EReal) :=
    (show _ = (((0#32).toInt : ℝ) : EReal) from rfl).trans (by norm_num)
  rw [h]
  exact (congrArg (· - _) c_rows).trans (by rw [← EReal.coe_sub, sub_zero])

/-- Both normalisations of a finite column with a finite gain: the gain times the difference from the mean,
over the root of the variance, plus the offset. -/
theorem norms_real (h : Fin 10000 → ℝ) (γ : ℝ) : ∃ ρ : ℝ, ∀ (H : Fin 10000 → Fin 512 → EReal) (g b : Fin 512 → EReal) (f : Fin 512),
    (∀ r, H r f = (h r : EReal)) → g f = (γ : EReal) → ∀ r,
      normK H g b r f = max (((γ * (h r - (∑ r, h r) / 10000) * ρ : ℝ) : EReal) + b f) 0 ∧
      normR H g b r f = max (((γ * (h r - (∑ r, h r) / 10000) * ρ : ℝ) : EReal) + b f) 0 := by
  obtain ⟨e, he, hE⟩ := c_eps
  refine ⟨(√((∑ r, (h r - (∑ r, h r) / 10000) * (h r - (∑ r, h r) / 10000)) / 10000 + e))⁻¹, fun H g b f hH hg r => ⟨?_, ?_⟩⟩
  · have hE' : Ideal.ofBits FTy.f32 925353388#32 = (e : EReal) := hE
    unfold normK bnK
    simp only [hH, hg, hE', c_invN]
    simp only [← EReal.coe_mul, sum_real, ← EReal.coe_sub, ← EReal.coe_add]
    rw [var_eq, rsqrt_real _ (var_pos h _ e he)]
    simp only [← EReal.coe_mul]
    rw [shift_eq]
    congr 3
    ring
  · have hE' : Ideal.ofBits FTy.f32 925353388#32 = (e : EReal) := hE
    have hC : Ideal.ofBits FTy.f32 1176256512#32 = ((10000 : ℝ) : EReal) := c_rows
    unfold normR
    rw [if_pos (by rw [count_eq]; exact_mod_cast (by norm_num : (0 : ℝ) < 10000)), count_eq]
    simp only [hH, hg, hE', hC, sum_real, div_real _ _ (by norm_num : (10000 : ℝ) ≠ 0), ← EReal.coe_sub, ← EReal.coe_mul, ← EReal.coe_add]
    rw [rsqrt_real _ (var_pos h _ e he), ← EReal.coe_mul]

/-- On a finite column with a finite gain the two normalisations agree. -/
theorem norm_eq (H : Fin 10000 → Fin 512 → EReal) (g b : Fin 512 → EReal) (hH : ∀ r f, IsReal (H r f)) (hg : ∀ f, IsReal (g f)) :
    normK H g b = normR H g b := by
  funext r f
  choose h hh using fun r => hH r f
  obtain ⟨γ, hγ⟩ := hg f
  obtain ⟨ρ, hρ⟩ := norms_real h γ
  exact (hρ H g b f hh hγ r).1.trans (hρ H g b f hh hγ r).2.symm

/-- With a finite offset as well, the normalised entry is finite. -/
theorem norm_fin (H : Fin 10000 → Fin 512 → EReal) (g b : Fin 512 → EReal) (hH : ∀ r f, IsReal (H r f)) (hg : ∀ f, IsReal (g f))
    (hb : ∀ f, IsReal (b f)) (r : Fin 10000) (f : Fin 512) : IsReal (normR H g b r f) := by
  choose h hh using fun r => hH r f
  obtain ⟨γ, hγ⟩ := hg f
  obtain ⟨β, hβ⟩ := hb f
  obtain ⟨ρ, hρ⟩ := norms_real h γ
  refine ⟨max (γ * (h r - (∑ r, h r) / 10000) * ρ + β) 0, (hρ H g b f hh hγ r).2.trans ?_⟩
  rw [hβ, ← EReal.coe_add, ← EReal.coe_zero, max_real]

/-- A linear layer of finite numbers is finite. -/
theorem lin_fin {n : ℕ} (x w : Fin n → EReal) (b : EReal) (hx : ∀ i, IsReal (x i)) (hw : ∀ i, IsReal (w i)) (hb : IsReal b) :
    IsReal (lin x w b) := by
  choose x' hx using hx
  choose w' hw using hw
  obtain ⟨b', rfl⟩ := hb
  refine ⟨(∑ i, x' i * w' i) + b', ?_⟩
  unfold lin
  simp only [hx, hw, ← EReal.coe_mul, sum_real, ← EReal.coe_add]

/-- The features and the first two layers are finite. -/
structure Finite (A : Args) : Prop where
  x : ∀ r q, IsReal (A.x r q)
  W1 : ∀ f q, IsReal (A.W1 f q)
  b1 : ∀ f, IsReal (A.b1 f)
  g1 : ∀ f, IsReal (A.g1 f)
  be1 : ∀ f, IsReal (A.be1 f)
  W2 : ∀ f q, IsReal (A.W2 f q)
  b2 : ∀ f, IsReal (A.b2 f)
  g2 : ∀ f, IsReal (A.g2 f)

/-- Where the features and the first two layers are finite, the kernel's network is the reference's. -/
theorem net_eq (A : Args) (hA : Finite A) : net normK layerK A = net normR layerR A := by
  have e1 : a1 normK A = a1 normR A := by
    have hH : ∀ r f, IsReal (h1 A r f) := fun r f => lin_fin _ _ _ (hA.x r) (hA.W1 f) (hA.b1 f)
    funext r f
    exact congrFun (congrFun (norm_eq (h1 A) A.g1 A.be1 hH hA.g1) r) f
  have f1 : ∀ r f, IsReal (a1 normR A r f) := norm_fin _ _ _ (fun r f => lin_fin _ _ _ (hA.x r) (hA.W1 f) (hA.b1 f)) hA.g1 hA.be1
  have e2 : h2 normK A = h2 normR A := by
    unfold h2
    rw [e1]
  have e3 : a2 normK A = a2 normR A := by
    unfold a2
    rw [e2]
    funext r f
    exact congrFun (congrFun (norm_eq (h2 normR A) A.g2 A.be2 (fun r f => lin_fin _ _ _ (f1 r) (hA.W2 f) (hA.b2 f)) hA.g2) r) f
  unfold net k3 xc k2 k1 x2
  rw [e3, layer_eq]

end Cert.Spec
end
-- ==== Proof.Algebraic.lean ====
module
public import proofs.«01_k».proof.Defs
public import proofs.«01_k».proof.Proof.KernelNet
public import proofs.«01_k».proof.Proof.RefNet
public import proofs.«01_k».proof.Proof.Norms
public import proofs.«01_k».proof.Proof.Gen.Pre_finite_layers
public import proofs.«01_k».proof.Proof.Gen.ReferenceIdeal.Run
public import proofs.«01_k».proof.Proof.Gen.ReferenceIdeal.Read
@[expose] public section
noncomputable section
/-!
The two programs end with one result array, where the precondition holds of the kernel's arguments.
-/
namespace Cert.Proof
open Idealize.ShloMosaic Idealize.SL.Sem Cert.Spec

/-- A number whose absolute value compares below infinity is real. -/
theorem isReal_of_lt (a : EReal) (h : FloatOps.cmpf (F := Ideal) (φ := FTy.f32) .olt (FloatOps.absf (F := Ideal) (φ := FTy.f32) a) (Ideal.ofBits FTy.f32 0x7F800000#32) = 1#1) :
    IsReal a := by
  have hinf : Ideal.ofBits FTy.f32 0x7F800000#32 = ⊤ := by simp [Ideal.ofBits, Ideal.ieee]
  have h' : max a (-a) < (⊤ : EReal) := by
    rw [hinf, Ideal.cmpf_def, Ideal.absf_def] at h
    have h2 : BitVec.ofBool (decide (max a (-a) < (⊤ : EReal))) = 1#1 := h
    by_contra hn
    rw [decide_eq_false hn] at h2
    exact absurd h2 (by decide)
  induction a with
  | bot => simp at h'
  | top => simp at h'
  | coe a => exact ⟨a, rfl⟩

/-- The precondition says that the features and the first two layers are finite. -/
theorem finite_of_pre (m : (ℓ : Loc Cert.KernelIdeal.nD Cert.KernelIdeal.τ Cert.KernelIdeal.sig) → Buf (Elt Ideal) ℓ)
    (h : Cert.Pre_KernelIdeal_finite_layers m) (c : Dev Cert.KernelIdeal.nD) : Finite (Cert.KernelIdeal.Value.args m c) := by
  obtain ⟨h0, h3, h4, h5, h6, h7, h8, h9⟩ := h c
  constructor
  · intro r q
    exact isReal_of_lt _ (congrFun h0 (ix2 r q))
  · intro r q
    exact isReal_of_lt _ (congrFun h3 (ix2 r q))
  · intro r
    exact isReal_of_lt _ (congrFun h4 (ix1 r))
  · intro r
    exact isReal_of_lt _ (congrFun h5 (ix1 r))
  · intro r
    exact isReal_of_lt _ (congrFun h6 (ix1 r))
  · intro r q
    exact isReal_of_lt _ (congrFun h7 (ix2 r q))
  · intro r
    exact isReal_of_lt _ (congrFun h8 (ix1 r))
  · intro r
    exact isReal_of_lt _ (congrFun h9 (ix1 r))

/-- The kernel's run: the result array holds the network, and every argument is unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, r.2.mem ((c.tc : Thread Cert.KernelIdeal.nD Cert.KernelIdeal.τ).loc Cert.KernelIdeal.main_v42) = Cert.KernelIdeal.Value.result m c) :=
  (θ_run Cert.KernelIdeal.defs _ _).mono (fun _ h c => ((h c).1 19).trans (Cert.KernelIdeal.Value.final_out m c))
    (Cert.KernelIdeal.Run.launch_post (F := Ideal) m ρ)

/-- The two programs' results are one array. -/
theorem algebraic : Cert.algebraic_KernelIdeal_ReferenceIdeal_pre_finite_layers := by
  intro m ρ m' ρ' hpre hagree
  refine ⟨fun c => Cert.KernelIdeal.Value.result m c, ?_, ?_⟩
  · exact (θ_run Cert.KernelIdeal.defs _ _).mono (fun _ h c => ⟨h.1 c, h.2.1 c⟩)
      (θ_run_and (kernel_run m ρ) (Cert.KernelIdeal.Run.keeps (F := Ideal) m ρ))
  · refine (θ_run Cert.ReferenceIdeal.defs _ _).mono (fun _ h c => ⟨(h c).1.trans ?_, (h c).2⟩) (Cert.ReferenceIdeal.Value.run (F := Ideal) m' ρ')
    obtain ⟨e0, -, -, e3, e4, e5, e6, e7, e8, e9, e10, e11, e12, e13, e14, e15, e16, e17, e18, e19, e20, e21, e22, e23, e24⟩ := hagree c
    rw [Cert.ReferenceIdeal.Read.val_main_v548_eq]
    have at_launch : ∀ (b : Ref Cert.ReferenceIdeal.sig .tc) v, m' ((c.tc : Thread Cert.ReferenceIdeal.nD Cert.ReferenceIdeal.τ).loc b) = v →
        StableHlo.launchContents m' c (Proc.devRef .tc b) = v := fun _ _ h => h
    rw [at_launch _ _ e0, at_launch _ _ e3, at_launch _ _ e4, at_launch _ _ e5, at_launch _ _ e6, at_launch _ _ e7, at_launch _ _ e8, at_launch _ _ e9, at_launch _ _ e10, at_launch _ _ e11, at_launch _ _ e12, at_launch _ _ e13, at_launch _ _ e14, at_launch _ _ e15, at_launch _ _ e16, at_launch _ _ e17, at_launch _ _ e18, at_launch _ _ e19, at_launch _ _ e20, at_launch _ _ e21, at_launch _ _ e22, at_launch _ _ e23, at_launch _ _ e24]
    funext y
    refine ((congrArg _ (eq_ix2 y)).trans (Cert.ReferenceIdeal.Layers.result_eq _ _ _ _ _ _ _ _ _ _ _ _ _ _ _ _ _ _ _ _ _ _ _ (y 0) (y 1))).trans ?_
    exact congrFun (congrFun (net_eq _ (finite_of_pre m hpre c)).symm _) _

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_layers
public import proofs.«01_k».proof.Proof.KernelRun
public import proofs.«01_k».proof.Proof.IdealRun
public import proofs.«01_k».proof.Proof.Algebraic
public import Idealize.ShloMosaic.Adequacy
public import Idealize.ShloMosaic.Init

@[expose] public section

noncomputable section

namespace Cert.Proof

open Idealize.ShloMosaic Idealize.SL.Sem

/-- The reference leaves its arguments unchanged, and has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The claim. -/
theorem claim : Cert.Claim := ⟨Cert.Kernel.Gen.facts, Cert.KernelIdeal.Gen.facts, Cert.ReferenceIdeal.Gen.facts,
  Cert.Pre_finite_layers.Gen.facts,
  fun m ρ _ => Cert.Kernel.Run.keeps m ρ,
  fun m ρ _ => Cert.KernelIdeal.Run.keeps m ρ,
  fun m ρ _ => Cert.KernelIdeal.Run.keeps m ρ,
  frame_reference,
  fun m ρ _ => frame_reference m ρ trivial,
  IdealRules.named_const.statement Cert.KernelIdeal.κ "inv_n" .f32 0x38D1B717#32 ((1 / 10000 : ℝ) : EReal) rfl,
  algebraic⟩

end Cert.Proof

end
